-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x512 : Shape := ⟨3, ![1, 256, 512]⟩
abbrev S256x256 : Shape := ⟨2, ![256, 256]⟩
abbrev S4 : Shape := ⟨1, ![4]⟩
abbrev S_ : Shape := ⟨0, ![]⟩
abbrev S1 : Shape := ⟨1, ![1]⟩
abbrev S64x256 : Shape := ⟨2, ![64, 256]⟩
abbrev S1x64x256 : Shape := ⟨3, ![1, 64, 256]⟩
abbrev S1x256x256 : Shape := ⟨3, ![1, 256, 256]⟩

abbrev nBuf : Space → Nat
  | .hbm => 2
  | .vmem => 5
  | .smem => 0
  | _ => 0

abbrev bufTy : (tb : Table) → Fin (tcTables nBuf tb) → BufTy
  | .hbm, ⟨0, _⟩ => ⟨S1x256x512, .f32⟩
  | .hbm, ⟨1, _⟩ => ⟨S256x256, .bf16⟩
  | .local _ .vmem, ⟨0, _⟩ => ⟨S256x256, .bf16⟩
  | .local _ .vmem, ⟨1, _⟩ => ⟨S256x256, .f32⟩
  | .local _ .vmem, ⟨2, _⟩ => ⟨S256x256, .f32⟩
  | .local _ .vmem, ⟨3, _⟩ => ⟨S256x256, .bf16⟩
  | .local _ .vmem, ⟨4, _⟩ => ⟨S256x256, .bf16⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c16_i32_4 : BitVec 32 := 16#32
  let v11 : BitVec 32 := Scalar.muli v10 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_7 : BitVec 32 := 0#32
  let v17 : BitVec 1 := Scalar.cmpi .eq v2 c0_i32_7
  let v18 : BitVec 32 := Scalar.extui v17
  let c0_i32_8 : BitVec 32 := 0#32
  let v19 : BitVec 1 := Scalar.cmpi .ne v18 c0_i32_8
  v19

def k0_dev2 (d0 : Dev nD) : Nat :=
  let c0_i32_47 : BitVec 32 := 0#32
  let c1_i32_45 : BitVec 32 := 1#32
  let c16_i32_46 : BitVec 32 := 16#32
  let v55 : BitVec 32 := Scalar.muli c1_i32_45 c16_i32_46
  let v56 : BitVec 32 := Scalar.addi c0_i32_47 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v57 : BitVec 32 := Scalar.muli v5 c4_i32_48
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v59 : BitVec 32 := Scalar.muli v8 c1_i32_49
  let v60 : BitVec 32 := Scalar.addi v58 v59
  v60.toNat
def k0_dev3 (d0 : Dev nD) : Nat :=
  let c0_i32_67 : BitVec 32 := 0#32
  let c1_i32_65 : BitVec 32 := 1#32
  let c16_i32_66 : BitVec 32 := 16#32
  let v77 : BitVec 32 := Scalar.muli c1_i32_65 c16_i32_66
  let v78 : BitVec 32 := Scalar.addi c0_i32_67 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v79 : BitVec 32 := Scalar.muli v5 c4_i32_68
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v81 : BitVec 32 := Scalar.muli v8 c1_i32_69
  let v82 : BitVec 32 := Scalar.addi v80 v81
  v82.toNat
def k0_dev4 (d0 : Dev nD) : Nat :=
  let c0_i32_87 : BitVec 32 := 0#32
  let c1_i32_85 : BitVec 32 := 1#32
  let c16_i32_86 : BitVec 32 := 16#32
  let v99 : BitVec 32 := Scalar.muli c1_i32_85 c16_i32_86
  let v100 : BitVec 32 := Scalar.addi c0_i32_87 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v101 : BitVec 32 := Scalar.muli v5 c4_i32_88
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v103 : BitVec 32 := Scalar.muli v8 c1_i32_89
  let v104 : BitVec 32 := Scalar.addi v102 v103
  v104.toNat
def k0_dev5 (d0 : Dev nD) : Nat :=
  let c0_i32_107 : BitVec 32 := 0#32
  let c1_i32_105 : BitVec 32 := 1#32
  let c16_i32_106 : BitVec 32 := 16#32
  let v121 : BitVec 32 := Scalar.muli c1_i32_105 c16_i32_106
  let v122 : BitVec 32 := Scalar.addi c0_i32_107 v121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_108 : BitVec 32 := 4#32
  let v123 : BitVec 32 := Scalar.muli v5 c4_i32_108
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v125 : BitVec 32 := Scalar.muli v8 c1_i32_109
  let v126 : BitVec 32 := Scalar.addi v124 v125
  v126.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_9 : BitVec 32 := 1#32
  let v20 : BitVec 1 := Scalar.cmpi .eq v2 c1_i32_9
  let v21 : BitVec 32 := Scalar.extui v20
  let c0_i32_10 : BitVec 32 := 0#32
  let v22 : BitVec 1 := Scalar.cmpi .ne v21 c0_i32_10
  v22

def k0_dev6 (d0 : Dev nD) : Nat :=
  let c0_i32_47 : BitVec 32 := 0#32
  let c0_i32_45 : BitVec 32 := 0#32
  let c16_i32_46 : BitVec 32 := 16#32
  let v55 : BitVec 32 := Scalar.muli c0_i32_45 c16_i32_46
  let v56 : BitVec 32 := Scalar.addi c0_i32_47 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v57 : BitVec 32 := Scalar.muli v5 c4_i32_48
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v59 : BitVec 32 := Scalar.muli v8 c1_i32_49
  let v60 : BitVec 32 := Scalar.addi v58 v59
  v60.toNat
def k0_dev7 (d0 : Dev nD) : Nat :=
  let c0_i32_67 : BitVec 32 := 0#32
  let c0_i32_65 : BitVec 32 := 0#32
  let c16_i32_66 : BitVec 32 := 16#32
  let v77 : BitVec 32 := Scalar.muli c0_i32_65 c16_i32_66
  let v78 : BitVec 32 := Scalar.addi c0_i32_67 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v79 : BitVec 32 := Scalar.muli v5 c4_i32_68
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v81 : BitVec 32 := Scalar.muli v8 c1_i32_69
  let v82 : BitVec 32 := Scalar.addi v80 v81
  v82.toNat
def k0_dev8 (d0 : Dev nD) : Nat :=
  let c0_i32_87 : BitVec 32 := 0#32
  let c0_i32_85 : BitVec 32 := 0#32
  let c16_i32_86 : BitVec 32 := 16#32
  let v99 : BitVec 32 := Scalar.muli c0_i32_85 c16_i32_86
  let v100 : BitVec 32 := Scalar.addi c0_i32_87 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v101 : BitVec 32 := Scalar.muli v5 c4_i32_88
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v103 : BitVec 32 := Scalar.muli v8 c1_i32_89
  let v104 : BitVec 32 := Scalar.addi v102 v103
  v104.toNat
def k0_dev9 (d0 : Dev nD) : Nat :=
  let c0_i32_107 : BitVec 32 := 0#32
  let c0_i32_105 : BitVec 32 := 0#32
  let c16_i32_106 : BitVec 32 := 16#32
  let v121 : BitVec 32 := Scalar.muli c0_i32_105 c16_i32_106
  let v122 : BitVec 32 := Scalar.addi c0_i32_107 v121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_108 : BitVec 32 := 4#32
  let v123 : BitVec 32 := Scalar.muli v5 c4_i32_108
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v125 : BitVec 32 := Scalar.muli v8 c1_i32_109
  let v126 : BitVec 32 := Scalar.addi v124 v125
  v126.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | .hbm, ⟨3, _⟩ => ⟨S256x512, .bf16⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
The kernel's body over chunks. The printed body is two copies of one program, one per value of the device's
mesh coordinate `x`, each of them with its four chunks written out. Here that program is written once, over the
half of the columns a device keeps and over a chunk number, and each printed copy is shown to be an instance of it.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.HalfReduce

open Cert.KernelIdeal Cert.KernelIdeal.Gen
open Idealize.ShloMosaic Idealize.ShloMosaic.TcCoe
open Idealize.SL Idealize.SL.Sem

variable {F : FTy → Type} [FloatOps F]

/-! ## Buffers and semaphores -/

/-- The argument in the device's main memory. -/
abbrev xM : Memref sig .tc .hbm S1x256x512 .f32 := Memref.whole main_arg0
/-- The device's result, staged. -/
abbrev oM : Memref sig .tc .vmem S256x256 .bf16 := Memref.whole cc0_stg0_0
/-- The columns to send, as they are fetched. -/
abbrev fM : Memref sig .tc .vmem S256x256 .f32 := Memref.whole cc0_scratch0
/-- The columns to keep, as they are fetched. -/
abbrev kM : Memref sig .tc .vmem S256x256 .f32 := Memref.whole cc0_scratch1
/-- The columns to send, rounded. -/
abbrev sM : Memref sig .tc .vmem S256x256 .bf16 := Memref.whole cc0_scratch2
/-- The columns received. -/
abbrev rM : Memref sig .tc .vmem S256x256 .bf16 := Memref.whole cc0_scratch3

/-- Rows `64 k` to `64 k + 63` of a 256 by 256 buffer lie in it. -/
theorem chunk_inb (k : Fin 4) : ∀ a, (![64 * k.val, 0] : Fin 2 → ℕ) a + S64x256.size a ≤ S256x256.size a := by
  revert k; decide
/-- Rows `64 k` to `64 k + 63`. -/
abbrev chunk (k : Fin 4) : Rect S256x256 := Rect.unit (s := S256x256) ![64 * k.val, 0] S64x256.size (chunk_inb k)
/-- The whole 256 by 256 rectangle. -/
abbrev full : Rect S256x256 := Rect.unit (s := S256x256) ![0, 0] S256x256.size inb_S256x256_S256x256_0_0

theorem chunk_packed (k : Fin 4) : (chunk k).PackedRows (EltTy.packing .bf16) :=
  match k with
  | 0 => packedbf16_S256x256_S64x256_0_0
  | 1 => packedbf16_S256x256_S64x256_64_0
  | 2 => packedbf16_S256x256_S64x256_128_0
  | 3 => packedbf16_S256x256_S64x256_192_0
theorem chunk_words (k : Fin 4) : (chunk k).WholeWords (EltTy.packing .bf16) :=
  match k with
  | 0 => wordsbf16_S256x256_S64x256_0_0
  | 1 => wordsbf16_S256x256_S64x256_64_0
  | 2 => wordsbf16_S256x256_S64x256_128_0
  | 3 => wordsbf16_S256x256_S64x256_192_0

/-- Chunk `k` of a 256 by 256 buffer. -/
abbrev part {e : EltTy} (m : Memref sig .tc .vmem S256x256 e) (k : Fin 4) : Memref sig .tc .vmem S64x256 e :=
  m.slice (chunk k) (fun _ => rfl)

theorem cols_inb (k : Fin 4) (h : Fin 2) :
    ∀ a, (![0, 64 * k.val, 256 * h.val] : Fin 3 → ℕ) a + S1x64x256.size a ≤ S1x256x512.size a := by
  revert k h; decide
theorem half_inb (h : Fin 2) : ∀ a, (![0, 0, 256 * h.val] : Fin 3 → ℕ) a + S1x256x256.size a ≤ S1x256x512.size a := by
  revert h; decide
/-- Chunk `k` of half `h` of the argument's columns. -/
abbrev xPart (k : Fin 4) (h : Fin 2) : Memref sig .tc .hbm S64x256 .f32 :=
  (xM.slice (Rect.unit (s := S1x256x512) ![0, 64 * k.val, 256 * h.val] S1x64x256.size (cols_inb k h)) (fun _ => rfl)).squeeze
    S64x256 squeezes_S1x64x256_S64x256
/-- Half `h` of the argument's columns. -/
abbrev xHalf (h : Fin 2) : Memref sig .tc .hbm S256x256 .f32 :=
  (xM.slice (Rect.unit (s := S1x256x512) ![0, 0, 256 * h.val] S1x256x256.size (half_inb h)) (fun _ => rfl)).squeeze
    S256x256 squeezes_S1x256x256_S256x256

theorem sem_inb (k : Fin 4) : ∀ a, (![k.val] : Fin 1 → ℕ) a + S1.size a ≤ S4.size a := by revert k; decide
/-- Semaphore `k` of an array of four. -/
abbrev semAt (s : DmaSems sig S4) (k : Fin 4) : DmaSem sig :=
  ((s.slice (Rect.unit (s := S4) ![k.val] S1.size (sem_inb k))).squeeze S_ squeezes_S1_S_).sem
/-- Completes when chunk `k` to send is fetched; -/
abbrev fetchS (k : Fin 4) : DmaSem sig := semAt cc0_scratch4 k
/-- when the columns to keep are fetched; -/
abbrev keepS : DmaSem sig := (cc0_scratch5 : DmaSems sig S_).sem
/-- when chunk `k` has left; -/
abbrev sendS (k : Fin 4) : DmaSem sig := semAt cc0_scratch6 k
/-- when chunk `k` of the other device has arrived. -/
abbrev recvS (k : Fin 4) : DmaSem sig := semAt cc0_scratch7 k
/-- The barrier semaphore. -/
abbrev barS : Sem sig := (SemArray.scalar (sig.barrier 0 rfl) : Sems sig S_).sem

/-! ## The steps -/

abbrev Steps (F : FTy → Type) [FloatOps F] := Prog (TpuEff nD τ sig (Elt F) Λ₀ .tc) PUnit

/-- Starts fetching chunk `k` of half `h`. -/
def fetch (h : Fin 2) (k : Fin 4) : Steps F :=
  Prog.lift (.enqueueDma (xPart k h) (.here (part fM k)) (.dma (fetchS k))
    ((View.wordExact_bits rfl).reshape _ _) (View.wordExact_bits rfl) ⟨Or.inl rfl, trivial⟩)

/-- Starts fetching half `h`. -/
def fetchKeep (h : Fin 2) : Steps F :=
  Prog.lift (.enqueueDma (xHalf h) (.here kM) (.dma keepS)
    ((View.wordExact_bits rfl).reshape _ _) (Memref.isWhole_whole _).wordExact ⟨Or.inl rfl, trivial⟩)

/-- Awaits chunk `k` of half `h` and rounds it into the send buffer. -/
def round (h : Fin 2) (k : Fin 4) : Steps F := do
  Prog.lift (.waitDma2 (fetchS k) (xPart k h) (part fM k) ((View.wordExact_bits rfl).reshape _ _) (View.wordExact_bits rfl))
  let v : Vec F S64x256 .f32 ← Prog.lift (.load fM (chunk k).toLoadRect (View.loadsAt_vmem h_S64x256))
  let _ : Vec F S64x256 .bf16 ← Prog.lift (.load sM (chunk k).toLoadRect (View.loadsAt_vmem h_S64x256))
  Prog.lift (.store sM (chunk k) (k0_pay1 v) Finset.univ
    (View.stores_vmem h_S64x256 ((Memref.isWhole_whole _).storeExact_slice rfl _ (chunk_packed k)) (fun _ => rfl)) (.inl rfl))

/-- Sends chunk `k` to device `n`. -/
def push (n : Dev nD) (k : Fin 4) : Steps F :=
  Prog.lift (.enqueueDma (part sM k) (.remote (Dev.tc n) (part rM k) (.dma (sendS k))) (.dma (recvS k))
    ((Memref.isWhole_whole _).wordExact_slice rfl _ (chunk_words k)) ((Memref.isWhole_whole _).wordExact_slice rfl _ (chunk_words k))
    ⟨⟨rfl, Or.inl rfl⟩, trivial⟩)

/-- Awaits half `h` and rounds it into the result. -/
def keep (h : Fin 2) : Steps F := do
  Prog.lift (.waitDma2 keepS (xHalf h) kM ((View.wordExact_bits rfl).reshape _ _) (Memref.isWhole_whole _).wordExact)
  let v : Vec F S256x256 .f32 ← Prog.lift (.load kM full.toLoadRect (View.loadsAt_vmem h_S256x256))
  let _ : Vec F S256x256 .bf16 ← Prog.lift (.load oM full.toLoadRect (View.loadsAt_vmem h_S256x256))
  Prog.lift (.store oM full (k0_pay6 v) Finset.univ
    (View.stores_vmem h_S256x256 ((Memref.isWhole_whole _).storeExact_slice rfl _ packedbf16_S256x256_S256x256_0_0) (fun _ => rfl)) (.inl rfl))

/-- Awaits chunk `k` from the other device and adds it to the result. -/
def gather (k : Fin 4) : Steps F := do
  Prog.lift (.waitDma2 (recvS k) (part sM k) (part rM k)
    ((Memref.isWhole_whole _).wordExact_slice rfl _ (chunk_words k)) ((Memref.isWhole_whole _).wordExact_slice rfl _ (chunk_words k)))
  let a : Vec F S64x256 .bf16 ← Prog.lift (.load oM (chunk k).toLoadRect (View.loadsAt_vmem h_S64x256))
  let b : Vec F S64x256 .bf16 ← Prog.lift (.load rM (chunk k).toLoadRect (View.loadsAt_vmem h_S64x256))
  let _ : Vec F S64x256 .bf16 ← Prog.lift (.load oM (chunk k).toLoadRect (View.loadsAt_vmem h_S64x256))
  Prog.lift (.store oM (chunk k) (k0_pay7 a b) Finset.univ
    (View.stores_vmem h_S64x256 ((Memref.isWhole_whole _).storeExact_slice rfl _ (chunk_packed k)) (fun _ => rfl)) (.inl rfl))

/-- Awaits that chunk `k` has left. -/
def drain (k : Fin 4) : Steps F :=
  Prog.lift (.waitDma2 (sendS k) (part rM k) (part sM k)
    ((Memref.isWhole_whole _).wordExact_slice rfl _ (chunk_words k)) ((Memref.isWhole_whole _).wordExact_slice rfl _ (chunk_words k)))

/-- Everything after the barrier signal, on a device that keeps half `h` and sends half `g`, chunk `k` to device `n k`. -/
def exchange (h g : Fin 2) (n : Fin 4 → Dev nD) : Steps F := do
  fetch g 0; fetch g 1; fetch g 2; fetch g 3; fetchKeep h
  round g 0; semWaitWord barS 1#32; push (n 0) 0
  round g 1; push (n 1) 1
  round g 2; push (n 2) 2
  round g 3; push (n 3) 3
  keep h
  gather 0; gather 1; gather 2; gather 3
  drain 0; drain 1; drain 2; drain 3

/-- The devices the four sends of a printed branch name. -/
def to₀ (d : Dev nD) (hd : k0_cond1 d = 1#1) : Fin 4 → Dev nD
  | 0 => ⟨k0_dev2 d, k0_dev2_lt d hd⟩ | 1 => ⟨k0_dev3 d, k0_dev3_lt d hd⟩
  | 2 => ⟨k0_dev4 d, k0_dev4_lt d hd⟩ | 3 => ⟨k0_dev5 d, k0_dev5_lt d hd⟩
def to₁ (d : Dev nD) (hd : k0_cond2 d = 1#1) : Fin 4 → Dev nD
  | 0 => ⟨k0_dev6 d, k0_dev6_lt d hd⟩ | 1 => ⟨k0_dev7 d, k0_dev7_lt d hd⟩
  | 2 => ⟨k0_dev8 d, k0_dev8_lt d hd⟩ | 3 => ⟨k0_dev9 d, k0_dev9_lt d hd⟩

/-- The printed body at the buffers the launch gives it. -/
abbrev body : Steps F :=
  cc0_body xM (Memref.isWhole_whole _) oM (Memref.isWhole_whole _) fM (Memref.isWhole_whole _) kM (Memref.isWhole_whole _)
    sM (Memref.isWhole_whole _) rM (Memref.isWhole_whole _) cc0_scratch4 cc0_scratch5 cc0_scratch6 cc0_scratch7

set_option maxRecDepth 65536 in
set_option maxHeartbeats 4000000 in
/-- The printed body: the barrier signal to the partner, then the exchange of the device's own branch. -/
theorem body_eq : body (F := F) = (do
    let d : Dev nD ← Prog.lift .deviceId
    semSignalWord (⟨k0_dev1 d, k0_dev1_lt d⟩ : Dev nD) barS 1#32
    if hd : k0_cond1 d = 1#1 then exchange 0 1 (to₀ d hd) else pure ⟨⟩
    if hd : k0_cond2 d = 1#1 then exchange 1 0 (to₁ d hd) else pure ⟨⟩) := rfl

end Cert.HalfReduce

end
-- ==== Proof.Protocol.lean ====
/-
The exchange as a protocol: who the partner is, what every buffer holds at every stage, which semaphores two devices
share, and what a unit on one of them stands for.

Device `c` and its partner, the device whose mesh coordinate `x` is the other one, exchange halves. Each tells the
other through the barrier semaphore that its receive buffer may be written; each chunk that leaves raises the sender's
send semaphore (the chunk's rows of the send buffer may be reused) and the partner's receive semaphore (the rows have
arrived). Each of those nine semaphores of a device sees one round with one payment.
-/
module

public import proofs.«01_k».proof.Proof.Program
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Pointwise.Index
public import Idealize.ShloMosaic.Lib.Tactic

@[expose] public section

noncomputable section

namespace Cert.HalfReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds, the exchange's rounds, the counters of the transfers inside a device -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The partner -/

set_option backward.proofsInPublic true in
/-- The device with the other coordinate `x`. -/
def peer (c : Dev nD) : Dev nD := ⟨(c.val + 16) % 32, Nat.mod_lt _ (by decide)⟩
theorem peer_peer (c : Dev nD) : peer (peer c) = c := by revert c; decide
def swap : Dev nD ≃ Dev nD := ⟨peer, peer, peer_peer, peer_peer⟩

/-- The half of the columns a device keeps: its coordinate `x`; -/
def mine (c : Dev nD) : Fin 2 := if c.val < 16 then 0 else 1
/-- the half it sends. -/
def theirs (c : Dev nD) : Fin 2 := if c.val < 16 then 1 else 0
theorem theirs_peer (c : Dev nD) : theirs (peer c) = mine c := by revert c; decide
theorem mine_peer (c : Dev nD) : mine (peer c) = theirs c := by revert c; decide

theorem signal_to (c : Dev nD) : (⟨k0_dev1 c, k0_dev1_lt c⟩ : Dev nD) = peer c :=
  Fin.ext ((k0_dev1_eq c).trans (by revert c; decide))
theorem low_of_cond1 (c : Dev nD) (h : k0_cond1 c = 1#1) : c.val < 16 := by revert c; decide
theorem high_of_cond2 (c : Dev nD) (h : k0_cond2 c = 1#1) : 16 ≤ c.val := by revert c; decide
theorem cond1_of_low (c : Dev nD) (h : c.val < 16) : k0_cond1 c = 1#1 := by revert c; decide
theorem cond2_of_high (c : Dev nD) (h : 16 ≤ c.val) : k0_cond2 c = 1#1 := by revert c; decide

theorem up_eq (c : Dev nD) (h : c.val < 16) : 4 * ((c.val / 4) % 4) + c.val % 4 + 16 = (peer c).val := by
  revert c; decide
theorem down_eq (c : Dev nD) (h : 16 ≤ c.val) : 4 * ((c.val / 4) % 4) + c.val % 4 = (peer c).val := by
  revert c; decide
theorem to₀_eq (c : Dev nD) (h : k0_cond1 c = 1#1) : to₀ c h = fun _ => peer c := funext fun k =>
  have e := up_eq c (low_of_cond1 c h)
  match k with
  | 0 => Fin.ext ((k0_dev2_eq c).trans e) | 1 => Fin.ext ((k0_dev3_eq c).trans e)
  | 2 => Fin.ext ((k0_dev4_eq c).trans e) | 3 => Fin.ext ((k0_dev5_eq c).trans e)
theorem to₁_eq (c : Dev nD) (h : k0_cond2 c = 1#1) : to₁ c h = fun _ => peer c := funext fun k =>
  have e := down_eq c (high_of_cond2 c h)
  match k with
  | 0 => Fin.ext ((k0_dev6_eq c).trans e) | 1 => Fin.ext ((k0_dev7_eq c).trans e)
  | 2 => Fin.ext ((k0_dev8_eq c).trans e) | 3 => Fin.ext ((k0_dev9_eq c).trans e)

/-- The body on device `c`: the signal to the partner, then the exchange with it. -/
theorem body_run (c : Dev nD) :
    (do semSignalWord (⟨k0_dev1 c, k0_dev1_lt c⟩ : Dev nD) barS 1#32
        if hd : k0_cond1 c = 1#1 then exchange 0 1 (to₀ c hd) else pure ⟨⟩
        if hd : k0_cond2 c = 1#1 then exchange 1 0 (to₁ c hd) else pure ⟨⟩)
      = (do semSignalWord (peer c) barS 1#32; exchange (F := F) (mine c) (theirs c) fun _ => peer c) := by
  rw [signal_to]
  by_cases h : c.val < 16
  · have h2 : ¬ k0_cond2 c = 1#1 := fun e => absurd (high_of_cond2 c e) (by omega)
    rw [dif_pos (cond1_of_low c h), dif_neg h2, to₀_eq, show mine c = 0 from if_pos h, show theirs c = 1 from if_pos h]
    rfl
  · have h1 : ¬ k0_cond1 c = 1#1 := fun e => absurd (low_of_cond1 c e) h
    rw [dif_neg h1, dif_pos (cond2_of_high c (by omega)), to₁_eq]
    rw [show mine c = 1 from if_neg h, show theirs c = 0 from if_neg h]

/-! ## Contents -/

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- Entry `i` of half `h` of the argument's columns. -/
def halfIdx (h : Fin 2) (i : S256x256.Idx) : S1x256x512.Idx :=
  ix3 (0 : Fin 1) (i 0 : Fin 256) (⟨256 * h.val + (i 1).val, by have := (i 1).isLt; have h2 : S256x256.size 1 = 256 := rfl; omega⟩ : Fin 512)

/-- Half `h` of device `c`'s argument. -/
def half (h : Fin 2) (c : Dev nD) : Vec F S256x256 .f32 := fun i => m ((c : Thread nD τ).loc main_arg0) (halfIdx h i)
/-- What device `c` sends: its partner's half, rounded; -/
def sent (c : Dev nD) : Vec F S256x256 .bf16 := k0_pay6 (half m (theirs c) c)
/-- what it keeps: its own half, rounded; -/
def kept (c : Dev nD) : Vec F S256x256 .bf16 := k0_pay6 (half m (mine c) c)
/-- the result: what it keeps and what its partner sends, added. -/
def result (c : Dev nD) : Vec F S256x256 .bf16 := addf (kept m c) (sent m (peer c))

omit [FloatOps F] in
theorem read_xHalf (h : Fin 2) (c : Dev nD) :
    (xHalf h).view.read (Elt F) (m ((c : Thread nD τ).loc main_arg0)) = half m h c := by
  funext i
  show m ((c : Thread nD τ).loc main_arg0) ((Rect.unit (s := S1x256x512) ![0, 0, 256 * h.val] S1x256x256.size (half_inb h)).emb
    (Shape.reshapeEquiv _ i)) = _
  rw [Shape.reshapeEquiv_cons_one]
  unfold half
  congr 1
  funext a
  apply Fin.ext
  rw [Rect.emb_apply]
  match a with
  | ⟨0, _⟩ => rfl
  | ⟨1, _⟩ => show 0 + 1 * (i 0).val = (i 0).val; omega
  | ⟨2, _⟩ => show 256 * h.val + 1 * (i 1).val = 256 * h.val + (i 1).val; omega

omit [FloatOps F] in
theorem read_xPart (k : Fin 4) (h : Fin 2) (c : Dev nD) :
    (xPart k h).view.read (Elt F) (m ((c : Thread nD τ).loc main_arg0)) = (part fM k).view.read (Elt F) (half m h c) := by
  funext i
  show m ((c : Thread nD τ).loc main_arg0) ((Rect.unit (s := S1x256x512) ![0, 64 * k.val, 256 * h.val] S1x64x256.size (cols_inb k h)).emb
    (Shape.reshapeEquiv _ i)) = m ((c : Thread nD τ).loc main_arg0) (halfIdx h ((chunk k).emb i))
  rw [Shape.reshapeEquiv_cons_one]
  congr 1
  funext a
  apply Fin.ext
  rw [Rect.emb_apply]
  match a with
  | ⟨0, _⟩ => rfl
  | ⟨1, _⟩ => rfl
  | ⟨2, _⟩ => show 256 * h.val + 1 * (i 1).val = 256 * h.val + (0 + 1 * (i 1).val); omega

/-- Rounding a chunk is a chunk of the rounding. -/
theorem round_part (k : Fin 4) (v : Vec F S256x256 .f32) :
    k0_pay1 ((part fM k).view.read (Elt F) v) = (part sM k).view.read (Elt F) (k0_pay6 v) := by
  unfold k0_pay1
  exact (shapeCast_self _ _).trans rfl
/-- Adding two chunks is a chunk of the sum. -/
theorem add_part (k : Fin 4) (a b : Vec F S256x256 .bf16) :
    k0_pay7 ((part oM k).view.read (Elt F) a) ((part rM k).view.read (Elt F) b) = (part oM k).view.read (Elt F) (addf a b) := by
  unfold k0_pay7
  exact (congrArg (fun x => addf x _) (shapeCast_self _ _)).trans rfl

/-! ## Chunks of a buffer -/

theorem chunk_disjoint {k k' : Fin 4} (h : k ≠ k') : Disjoint (chunk k).set (chunk k').set := by
  rw [Finset.disjoint_left]
  intro i hi hi'
  obtain ⟨l, u⟩ : 64 * k.val ≤ (i 0).val ∧ (i 0).val < 64 * k.val + 64 := Rect.mem_set_unit.mp hi 0
  obtain ⟨l', u'⟩ : 64 * k'.val ≤ (i 0).val ∧ (i 0).val < 64 * k'.val + 64 := Rect.mem_set_unit.mp hi' 0
  exact h (Fin.ext (by omega))

theorem chunk_cover (i : S256x256.Idx) : ∃ k : Fin 4, i ∈ (chunk k).set := by
  have h0 : (i 0).val < 256 := (i 0).isLt
  have h1 : (i 1).val < 256 := (i 1).isLt
  refine ⟨⟨(i 0).val / 64, by omega⟩, Rect.mem_set_unit.mpr fun a => ?_⟩
  match a with
  | ⟨0, _⟩ => show 64 * ((i 0).val / 64) ≤ (i 0).val ∧ (i 0).val < 64 * ((i 0).val / 64) + 64; omega
  | ⟨1, _⟩ => show 0 ≤ (i 1).val ∧ (i 1).val < 0 + 256; omega

/-- Device `c` holds chunk `k` of a buffer, at the contents `f` has there. -/
def holds {e : EltTy} (M : Memref sig .tc .vmem S256x256 e) (c : Dev nD) (k : Fin 4)
    (f : Buf (Elt F) (M.view.loc (c : Thread nD τ))) : sProp 𝕄 :=
  (part M k).view.loc (c : Thread nD τ) ↦[(part M k).view.set]{fullShare} f

omit [FloatOps F] in
instance holds_storable {e : EltTy} (M : Memref sig .tc .vmem S256x256 e) (c : Dev nD) (k : Fin 4) (f) :
    BI.Storable (upEmb : UEmb _ 𝕄) (holds (F := F) M c k f) := by unfold holds; infer_instance

omit [FloatOps F] in
/-- A buffer is its four chunks. -/
theorem whole_eq_parts {e : EltTy} (M : Memref sig .tc .vmem S256x256 e) (hM : M.view.set = Finset.univ) (c : Dev nD)
    (f : Buf (Elt F) (M.view.loc (c : Thread nD τ))) :
    (M.view.loc (c : Thread nD τ) ↦{fullShare} f : sProp 𝕄) = bigSep Finset.univ fun k => holds M c k f := by
  have hset (k : Fin 4) : (part M k).view.set = (chunk k).set.map M.view.emb := View.set_slice _ _
  have hd : ∀ k ∈ (Finset.univ : Finset (Fin 4)), ∀ k' ∈ (Finset.univ : Finset (Fin 4)), k ≠ k' →
      Disjoint (part M k).view.set (part M k').view.set := fun k _ k' _ h => by
    rw [hset, hset]
    exact (Finset.disjoint_map _).mpr (chunk_disjoint h)
  have hK := pointsTo_biUnion (ℓ := M.view.loc (c : Thread nD τ)) (q := fullShare) (f := f) (Ix := Unit) (Name := ℕ) (U := UU) (Lvl := ℕ)
    Finset.univ (fun k : Fin 4 => (part M k).view.set) hd
  refine Eq.trans (congrArg (fun S => (M.view.loc (c : Thread nD τ) ↦[S]{fullShare} f : sProp 𝕄)) ?_) hK
  refine (Finset.eq_univ_of_forall fun i => ?_).symm
  have hi : i ∈ M.view.set := by rw [hM]; exact Finset.mem_univ i
  obtain ⟨x, -, rfl⟩ := Finset.mem_map.mp hi
  obtain ⟨k, hk⟩ := chunk_cover x
  refine Finset.mem_biUnion.mpr ⟨k, Finset.mem_univ _, ?_⟩
  show M.view.emb x ∈ (part M k).view.set
  rw [hset]
  exact Finset.mem_map_of_mem _ hk

omit [FloatOps F] in
/-- A chunk written with what a chunk of `g` reads holds `g`. -/
theorem holds_write {e : EltTy} (M : Memref sig .tc .vmem S256x256 e) (c : Dev nD) (k : Fin 4)
    (f g : Buf (Elt F) (M.view.loc (c : Thread nD τ))) (w : S64x256.Idx → Elt F e)
    (hw : w = (part M k).view.read (Elt F) g) :
    ((part M k).view.loc (c : Thread nD τ) ↦[(part M k).view.set]{fullShare} (part M k).view.write (Elt F) f w Finset.univ : sProp 𝕄)
      = holds M c k g := by
  unfold holds
  refine pointsTo_congr fun i hi => ?_
  rw [hw, View.write_read_eq_piecewise, View.setOn_univ]
  exact Finset.piecewise_eq_of_mem _ _ _ hi

end Cert.HalfReduce

end
-- ==== Proof.Schedule.lean ====
/-
The nine semaphores two devices share: what is paid on each, what a payment hands over, what each device owes at
launch, and the order in which the semaphores may be waited on.
-/
module

public import proofs.«01_k».proof.Proof.Protocol

@[expose] public section

noncomputable section

namespace Cert.HalfReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The semaphores of a device that the exchange's rounds run on: the barrier, the four sends, the four receives. -/
abbrev Cell : Type := Unit ⊕ (Fin 4 ⊕ Fin 4)
abbrev bar : Cell := .inl ()
abbrev out (k : Fin 4) : Cell := .inr (.inl k)
abbrev inc (k : Fin 4) : Cell := .inr (.inr k)

abbrev csem : Cell → SemLoc sig
  | .inl _ => .reg barS
  | .inr (.inl k) => .dma (sendS k)
  | .inr (.inr k) => .dma (recvS k)
abbrev kcell (c : Dev nD) (j : Cell) : GSem nD τ sig := ((c : Thread nD τ), csem j)

/-- Which cell a semaphore is, if one. -/
def cellAt (s : SemLoc sig) : Option Cell :=
  [bar, out 0, out 1, out 2, out 3, inc 0, inc 1, inc 2, inc 3].find? fun j => decide (csem j = s)
theorem cellAt_csem (j : Cell) : cellAt (csem j) = some j := by revert j; decide
theorem csem_injective : Function.Injective csem := fun a b h =>
  Option.some.inj ((cellAt_csem a).symm.trans ((congrArg cellAt h).trans (cellAt_csem b)))
theorem kcell_inj {c c' : Dev nD} {j j' : Cell} : kcell c j = kcell c' j' ↔ c = c' ∧ j = j' :=
  ⟨fun h => ⟨congrArg (fun g : GSem nD τ sig => g.1.1) h, csem_injective (congrArg Prod.snd h)⟩, fun ⟨h, h'⟩ => by rw [h, h']⟩

/-- The credit of one chunk's transfer. -/
abbrev N : ℕ := (part sM 0).view.dmaCredit
theorem N_pos : 0 < N := View.dmaCredit_pos _ (by decide)

variable (m : (ℓ : Loc nD τ sig) → Buf (Elt F) ℓ) (ρ : Dev nD → PrngReg)

/-! ## Payments -/

/-- What a unit on device `c`'s cell hands it: on the barrier, its partner's receive buffer; on a send cell, the rows sent;
    on a receive cell, the rows received. -/
def pay (c : Dev nD) : Cell → sProp 𝕄
  | .inl _ => iprop(∃ f : Buf (Elt F) ((rM).view.loc (peer c : Thread nD τ)), bigSep Finset.univ fun k => holds rM (peer c) k f)
  | .inr (.inl k) => holds sM c k (sent m c)
  | .inr (.inr k) => holds rM c k (sent m (peer c))
def units : Cell → ℕ
  | .inl _ => 1
  | _ => N

instance pay_storable (c : Dev nD) (j : Cell) : BI.Storable (upEmb : UEmb _ 𝕄) (pay m c j) :=
  match j with
  | .inl _ => by unfold pay; infer_instance
  | .inr (.inl _) => by unfold pay; infer_instance
  | .inr (.inr _) => by unfold pay; infer_instance

/-- One round on each cell, of one payment. -/
def sched : Rounds.Schedule (GSem nD τ sig) Unit 𝕄 where
  duties g r := if r = 0 ∧ g.1.2 = .tc ∧ (cellAt g.2).isSome then {()} else ∅
  unitless _ := False
  amount g _ _ := (cellAt g.2).elim 1 units
  payload g _ _ := (cellAt g.2).elim iprop(emp) (pay m g.1.1)
  amount_pos g _ _ _ := by
    rcases cellAt g.2 with _ | (_ | _)
    · exact Nat.one_pos
    · exact Nat.one_pos
    · exact N_pos

instance sched_storable (g : GSem nD τ sig) (r : ℕ) (d : Unit) : BI.Storable (upEmb : UEmb _ 𝕄) ((sched m).payload g r d) := by
  show BI.Storable upEmb ((cellAt g.2).elim iprop(emp) (pay m g.1.1))
  rcases cellAt g.2 with _ | j
  · show BI.Storable upEmb iprop(emp); infer_instance
  · show BI.Storable upEmb (pay m g.1.1 j); infer_instance

section Tables
variable (c : Dev nD) (j : Cell)

theorem duties_cell : (sched m).duties (kcell c j) 0 = {()} := by
  dsimp only [sched]; exact if_pos ⟨rfl, rfl, by rw [cellAt_csem]; rfl⟩
theorem duties_later (g : GSem nD τ sig) : ∀ r, 1 ≤ r → (sched m).duties g r = ∅ := fun r hr => by
  dsimp only [sched]; exact if_neg fun h => by omega
theorem amount_cell (d : Unit) : (sched m).amount (kcell c j) 0 d = units j := by
  dsimp only [sched]; rw [cellAt_csem]; rfl
theorem payload_cell (d : Unit) : (sched m).payload (kcell c j) 0 d = pay m c j := by
  dsimp only [sched]; rw [cellAt_csem]; rfl
theorem duty_cell : () ∈ (sched m).duties (kcell c j) 0 := by rw [duties_cell]; exact Finset.mem_singleton_self _
theorem expect_cell : (sched m).expect (kcell c j) 0 = units j := by
  unfold Schedule.expect Schedule.amountOf; rw [duties_cell, Finset.sum_singleton, amount_cell]
theorem rest_cell : bigSep ((sched m).duties (kcell c j) 0 \ ∅) (fun d => (sched m).payload (kcell c j) 0 d) = pay m c j := by
  rw [Finset.sdiff_empty, duties_cell, bigSep_singleton, payload_cell]

end Tables

/-! ## Debts and levels -/

/-- The arrivals a device owes its partner, one per chunk of the list. -/
def owe (c : Dev nD) : List (Fin 4) → CellTallies nD τ sig Unit
  | [] => 0
  | k :: ks => owe c ks + tallyAt (kcell (peer c) (inc k)) () N
/-- Its debts at launch: those and the barrier signal. -/
def O₀ (c : Dev nD) : CellTallies nD τ sig Unit := owe c [0, 1, 2, 3] + tallyAt (kcell (peer c) bar) () 1

def L (g : GSem nD τ sig) : Finset Unit := if g.1.2 = .tc then {()} else ∅
/-- Receives above the barrier, the barrier above everything else. -/
def lv (g : GSem nD τ sig) (_ : Unit) : ℕ :=
  match cellAt g.2 with
  | some (.inl _) => 1
  | some (.inr (.inr _)) => 2
  | _ => 0

theorem L_of_ne (g : GSem nD τ sig) (h : g.1.2 ≠ .tc) : L g = ∅ := if_neg h
theorem mem_L (c : Dev nD) (s : SemLoc sig) (u : Unit) : u ∈ L ((c : Thread nD τ), s) := by
  rw [show L ((c : Thread nD τ), s) = {()} from if_pos rfl]; exact Finset.mem_singleton_self _
theorem lv_bar (c : Dev nD) (u : Unit) : lv (kcell c bar) u = 1 := by
  unfold lv; rw [show cellAt (kcell c bar).2 = some bar from cellAt_csem bar]
theorem lv_inc (c : Dev nD) (k : Fin 4) (u : Unit) : lv (kcell c (inc k)) u = 2 := by
  unfold lv; rw [show cellAt (kcell c (inc k)).2 = some (inc k) from cellAt_csem (inc k)]

theorem of_tallyAt_pos {g g' : GSem nD τ sig} {n : ℕ} {u : Unit} (h : 0 < tallyAt g () n g' u) : g' = g := by
  rw [tallyAt_apply] at h
  by_contra hn
  rw [if_neg fun e => hn e.1] at h
  exact Nat.lt_irrefl 0 h

theorem owe_pos {c : Dev nD} {ks : List (Fin 4)} {g : GSem nD τ sig} {u : Unit} (h : 0 < owe c ks g u) :
    ∃ k, g = kcell (peer c) (inc k) := by
  induction ks with
  | nil => exact absurd h (Nat.lt_irrefl 0)
  | cons k ks ih =>
    have h' : 0 < owe c ks g u + tallyAt (kcell (peer c) (inc k)) () N g u := h
    rcases Nat.eq_zero_or_pos (owe c ks g u) with h0 | h0
    · rw [h0, Nat.zero_add] at h'; exact ⟨k, of_tallyAt_pos h'⟩
    · exact ih h0

theorem O₀_pos {c : Dev nD} {g : GSem nD τ sig} {u : Unit} (h : 0 < O₀ c g u) :
    (∃ k, g = kcell (peer c) (inc k)) ∨ g = kcell (peer c) bar := by
  have h' : 0 < owe c [0, 1, 2, 3] g u + tallyAt (kcell (peer c) bar) () 1 g u := h
  rcases Nat.eq_zero_or_pos (owe c [0, 1, 2, 3] g u) with h0 | h0
  · rw [h0, Nat.zero_add] at h'; exact .inr (of_tallyAt_pos h')
  · exact .inl (owe_pos h0)

/-- A wait below every debt is allowed. -/
theorem mayWait_below (c : Dev nD) (s : SemLoc sig) (O : CellTallies nD τ sig Unit)
    (hO : ∀ g u, 0 < O g u → ∃ d j, g = kcell d j ∧ lv ((c : Thread nD τ), s) () < lv g u) :
    (levAts L lv : sProp 𝕄) ⊢ MayWait (c : Thread nD τ) s () O :=
  MayOwe.of_cut (L := L) (lev := lv) (lv ((c : Thread nD τ), s) ())
    (fun p hp => by rw [Finset.mem_singleton.mp hp]; exact mem_L c s _)
    (fun g u hg => by obtain ⟨d, j, rfl, -⟩ := hO g u hg; exact mem_L d _ u)
    (fun p hp => by rw [Finset.mem_singleton.mp hp])
    (fun g u hg => by obtain ⟨d, j, -, h⟩ := hO g u hg; exact h)

/-- A semaphore of no cell may be waited on under the arrivals owed, -/
theorem mayWait_owe (c : Dev nD) (s : SemLoc sig) (hs : lv ((c : Thread nD τ), s) () < 2) (ks : List (Fin 4)) :
    (levAts L lv : sProp 𝕄) ⊢ MayWait (c : Thread nD τ) s () (owe c ks) :=
  mayWait_below c s _ fun g u hg => by
    obtain ⟨k, rfl⟩ := owe_pos hg
    exact ⟨_, _, rfl, by rw [lv_inc]; exact hs⟩
/-- and under the debts at launch. -/
theorem mayWait_launch (c : Dev nD) (s : SemLoc sig) (hs : lv ((c : Thread nD τ), s) () < 1) :
    (levAts L lv : sProp 𝕄) ⊢ MayWait (c : Thread nD τ) s () (O₀ c) :=
  mayWait_below c s _ fun g u hg => by
    rcases O₀_pos hg with ⟨k, rfl⟩ | rfl
    · exact ⟨_, _, rfl, by rw [lv_inc]; omega⟩
    · exact ⟨_, _, rfl, by rw [lv_bar]; exact hs⟩

theorem lv_fetch (c : Dev nD) (k : Fin 4) : lv ((c : Thread nD τ), .dma (fetchS k)) () = 0 := by
  unfold lv; rw [show cellAt (.dma (fetchS k)) = none by revert k; decide]
theorem lv_keep (c : Dev nD) : lv ((c : Thread nD τ), .dma keepS) () = 0 := by
  unfold lv; rw [show cellAt (.dma keepS) = none by decide]

/-! ## The ghost state of a device -/

/-- Every cell's invariant, at the names `K`, and that every cell is at its round. -/
def records (K : Dev nD × Cell → ℕ) : sProp 𝕄 :=
  iprop((bigSep Finset.univ fun cj : Dev nD × Cell => cellInv ER (sched m) (K cj) (kcell cj.1 cj.2))
    ∗ bigSep Finset.univ fun cj : Dev nD × Cell => reached ER (kcell cj.1 cj.2) 0)
instance records_persistent (K : Dev nD × Cell → ℕ) : BI.Persistent (records m K) := by unfold records; infer_instance

theorem inv_at (K : Dev nD × Cell → ℕ) (c : Dev nD) (j : Cell) : records m K ⊢ cellInv ER (sched m) (K (c, j)) (kcell c j) :=
  sep_elim_left.trans (bigSep_elim (Φ := fun cj : Dev nD × Cell => (cellInv ER (sched m) (K cj) (kcell cj.1 cj.2) : sProp 𝕄)) (Finset.mem_univ (c, j)))
theorem reached_at (K : Dev nD × Cell → ℕ) (c : Dev nD) (j : Cell) : records m K ⊢ reached ER (kcell c j) 0 :=
  sep_elim_right.trans (bigSep_elim (Φ := fun cj : Dev nD × Cell => (reached ER (kcell cj.1 cj.2) 0 : sProp 𝕄)) (Finset.mem_univ (c, j)))

/-- A device's place in the round of its cell `j`. -/
abbrev place (c : Dev nD) (j : Cell) : sProp 𝕄 := atPos ER (kcell c j) 0 ∅ 0
/-- The right to make the payment of cell `j` of device `c`. -/
abbrev right (c : Dev nD) (j : Cell) : sProp 𝕄 := dutyTok ER (kcell c j) 0 ()

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.HalfReduce

end
-- ==== Proof.Steps.lean ====
/-
What each step of the exchange does, for any chunk: one lemma per step.
-/
module

public import proofs.«01_k».proof.Proof.Schedule

@[expose] public section

noncomputable section

namespace Cert.HalfReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` to `Q`. -/
abbrev runs (c : Dev nD) (p : Steps F) (Q : PUnit → sProp 𝕄) : sProp 𝕄 :=
  wp frame (wpE (defs₀ (F := F)) 𝒱₀ (c : Thread nD τ) none) Set.univ p Q

/-- Device `c` owes `O`. -/
def owing (c : Dev nD) (O : CellTallies nD τ sig Unit) : sProp 𝕄 := iprop(∃ W, owes (c : Thread nD τ) O W)

/-- A share of device `c`'s argument. -/
def arg (c : Dev nD) (q : PosShare TreeShare) : sProp 𝕄 :=
  ((c : Thread nD τ).loc main_arg0) ↦{q} m ((c : Thread nD τ).loc main_arg0)
/-- The credit of one chunk's fetch. -/
abbrev Nf : ℕ := (part fM 0).view.dmaCredit
theorem Nf_pos : 0 < Nf := View.dmaCredit_pos _ (by decide)

/-- Chunk `k` is being fetched: its flight, and the entries of the argument the flight does not borrow. -/
def fetching (c : Dev nD) (k : Fin 4) (q : PosShare TreeShare) : sProp 𝕄 :=
  iprop(Transfers.Flight EC (c : Thread nD τ) (.dma (fetchS k)) () Nf
      iprop(holds fM c k (half m (theirs c) c)
        ∗ ((xPart k (theirs c)).view.loc (c : Thread nD τ) ↦[(xPart k (theirs c)).view.set]{q} m ((c : Thread nD τ).loc main_arg0)))
    ∗ (((c : Thread nD τ).loc main_arg0) ↦[Finset.univ \ (xPart k (theirs c)).view.set]{q} m ((c : Thread nD τ).loc main_arg0)))

theorem step_fetch (c : Dev nD) (k : Fin 4) (q : PosShare TreeShare) (f : Buf (Elt F) ((fM).view.loc (c : Thread nD τ))) (Q : PUnit → sProp 𝕄) :
    iprop(arg m c q ∗ holds fM c k f ∗ semVal ((c : Thread nD τ), SemLoc.dma (fetchS k)) 0)
      ⊢ iprop((fetching m c k q -∗ Q ⟨⟩) -∗ runs c (fetch (theirs c) k) Q) := by
  unfold arg fetching fetch runs holds
  iintro ⟨Hx, Hf, Hv⟩ Hk
  ihave Hs := (pointsTo_split_subset (Finset.subset_univ (xPart k (theirs c)).view.set)).1 $$ Hx
  icases Hs with ⟨Hx, Hrest⟩
  iapply (Transfers.wp_dmaLocal EC 𝒱₀ (c : Thread nD τ) none () Nf rfl Nf_pos (Finset.Subset.refl _)) $$ [Hx Hf Hv]
  · isplitl [Hx]; · iexact Hx
    isplitl [Hf] <;> iassumption
  iintro Hfl
  rw [wp_ret]; imodintro
  iapply Hk
  isplitl [Hfl]
  · iapply (Entails.of_eq (congrArg (fun D => Transfers.Flight EC (c : Thread nD τ) (.dma (fetchS k)) () Nf iprop(D ∗ _))
      (holds_write fM c k f (half m (theirs c) c) _ (read_xPart m k (theirs c) c)))) $$ Hfl
  · iexact Hrest

/-- A whole buffer of device `c`. -/
def buf {e : EltTy} (M : Memref sig .tc .vmem S256x256 e) (c : Dev nD) (f : Buf (Elt F) (M.view.loc (c : Thread nD τ))) : sProp 𝕄 :=
  M.view.loc (c : Thread nD τ) ↦{fullShare} f

/-- The credit of the fetch of a whole half. -/
abbrev Nk : ℕ := (kM).view.dmaCredit
theorem Nk_pos : 0 < Nk := View.dmaCredit_pos _ (by decide)

/-- The half to keep is being fetched. -/
def keeping (c : Dev nD) (q : PosShare TreeShare) : sProp 𝕄 :=
  iprop(Transfers.Flight EC (c : Thread nD τ) (.dma keepS) () Nk
      iprop(buf kM c (half m (mine c) c)
        ∗ ((xHalf (mine c)).view.loc (c : Thread nD τ) ↦[(xHalf (mine c)).view.set]{q} m ((c : Thread nD τ).loc main_arg0)))
    ∗ (((c : Thread nD τ).loc main_arg0) ↦[Finset.univ \ (xHalf (mine c)).view.set]{q} m ((c : Thread nD τ).loc main_arg0)))

theorem step_fetchKeep (c : Dev nD) (q : PosShare TreeShare) (f : Buf (Elt F) ((kM).view.loc (c : Thread nD τ))) (Q : PUnit → sProp 𝕄) :
    iprop(arg m c q ∗ buf kM c f ∗ semVal ((c : Thread nD τ), SemLoc.dma keepS) 0)
      ⊢ iprop((keeping m c q -∗ Q ⟨⟩) -∗ runs c (fetchKeep (mine c)) Q) := by
  unfold arg keeping fetchKeep runs buf
  iintro ⟨Hx, Hf, Hv⟩ Hk
  ihave Hs := (pointsTo_split_subset (Finset.subset_univ (xHalf (mine c)).view.set)).1 $$ Hx
  icases Hs with ⟨Hx, Hrest⟩
  iapply (Transfers.wp_dmaLocal EC 𝒱₀ (c : Thread nD τ) none () Nk rfl Nk_pos (Finset.subset_univ _)) $$ [Hx Hf Hv]
  · isplitl [Hx]; · iexact Hx
    isplitl [Hf] <;> iassumption
  iintro Hfl
  rw [wp_ret]; imodintro
  iapply Hk
  isplitl [Hfl]
  · iapply (Entails.of_eq (congrArg (fun g => Transfers.Flight EC (c : Thread nD τ) (.dma keepS) () Nk
        iprop(((kM).view.loc (c : Thread nD τ) ↦{fullShare} g) ∗ _))
      ((View.write_whole_univ _ _ _).trans (read_xHalf m (mine c) c)))) $$ Hfl
  · iexact Hrest

/-- Awaiting a fetch: the delivery, the counter back at zero, the borrowed entries of the argument rejoined. -/
theorem arg_join (c : Dev nD) (q : PosShare TreeShare) (S : Finset (Idx ((c : Thread nD τ).loc main_arg0))) :
    iprop((((c : Thread nD τ).loc main_arg0) ↦[S]{q} m ((c : Thread nD τ).loc main_arg0))
        ∗ (((c : Thread nD τ).loc main_arg0) ↦[Finset.univ \ S]{q} m ((c : Thread nD τ).loc main_arg0))) ⊢ arg m c q :=
  (pointsTo_split_subset (Finset.subset_univ S)).2

theorem step_round (c : Dev nD) (k : Fin 4) (q : PosShare TreeShare) (O : CellTallies nD τ sig Unit)
    (hO : (levAts L lv : sProp 𝕄) ⊢ MayWait (c : Thread nD τ) (.dma (fetchS k)) () O)
    (f : Buf (Elt F) ((sM).view.loc (c : Thread nD τ))) (Q : PUnit → sProp 𝕄) :
    iprop(levAts L lv ∗ fetching m c k q ∗ holds sM c k f ∗ owing c O)
      ⊢ iprop(((arg m c q ∗ holds fM c k (half m (theirs c) c) ∗ semVal ((c : Thread nD τ), SemLoc.dma (fetchS k)) 0
            ∗ holds sM c k (sent m c) ∗ owing c O) -∗ Q ⟨⟩)
          -∗ runs c (round (theirs c) k) Q) := by
  unfold fetching owing runs round
  simp only [Prog.lift, Prog.bind_op, Prog.bind_ret]
  iintro ⟨Hlev, ⟨Hfl, Hrest⟩, Hs, ⟨%W, HO⟩⟩ Hk
  iapply (Transfers.wp_waitLocalO EC 𝒱₀ (c : Thread nD τ) none (srcw := xPart k (theirs c)) (dstw := part fM k) () (N := Nf) rfl) $$ [Hlev Hfl HO]
  · isplitl [Hfl]; · iexact Hfl
    isplitl [HO]; · iexact HO
    iapply hO; iexact Hlev
  iintro ⟨⟨Hf, Hx⟩, Hv, HO⟩
  ihave Hx := (arg_join m c q _) $$ [Hx Hrest]
  · isplitl [Hx]; · iexact Hx
    iexact Hrest
  unfold holds
  iapply (wp_load_rect 𝒱₀ (c : Thread nD τ) none Set.univ (m := fM) (r := chunk k) (Finset.Subset.refl _)) $$ Hf; iintro Hf
  iapply (wp_load_rect 𝒱₀ (c : Thread nD τ) none Set.univ (m := sM) (r := chunk k) (Finset.Subset.refl _)) $$ Hs; iintro Hs
  iapply (wp_store 𝒱₀ (c : Thread nD τ) none Set.univ (m := sM) (r := chunk k) (Mk := Finset.univ) (View.setOn_subset_set _ _)) $$ Hs
  iintro Hs
  ihave Hs := (Entails.of_eq (holds_write sM c k f (sent m c) _ (round_part k (half m (theirs c) c)))) $$ Hs
  rw [wp_ret]; imodintro
  iapply Hk
  isplitl [Hx]; · iexact Hx
  isplitl [Hf]; · iexact Hf
  isplitl [Hv]; · iexact Hv
  isplitl [Hs]; · unfold holds; iexact Hs
  iexists _; iexact HO

theorem step_push (K : Dev nD × Cell → ℕ) (c : Dev nD) (k : Fin 4) (ks : List (Fin 4))
    (f : Buf (Elt F) ((rM).view.loc (peer c : Thread nD τ))) (Q : PUnit → sProp 𝕄) :
    iprop(records m K ∗ holds sM c k (sent m c) ∗ holds rM (peer c) k f ∗ right c (out k) ∗ right (peer c) (inc k) ∗ owing c (owe c (k :: ks)))
      ⊢ iprop(((cred (tallyAt (kcell c (out k)) () N) ∗ owing c (owe c ks)) -∗ Q ⟨⟩) -∗ runs c (push (peer c) k) Q) := by
  unfold owing runs push
  simp only [Prog.lift]
  iintro ⟨#HR, Hs, Hr, Ht, Hu, ⟨%W, HO⟩⟩ Hk
  unfold holds
  iapply (Rounds.wp_send_pointsTo 𝒱₀ ER (sched m) (c : Thread nD τ) none (c' := (peer c : Thread nD τ)) (src := part sM k) (dst := part rM k)
      (κ₁ := K (c, out k)) (κ₂ := K (peer c, inc k)) (r₁ := 0) (r₂ := 0) (d₁ := ()) (d₂ := ()) (fs := sent m c) (fd := f)
      (duty_cell m c (out k)) (duty_cell m (peer c) (inc k)) () () N rfl (amount_cell m c (out k) ()) (amount_cell m (peer c) (inc k) ())
      (owe c ks) rfl (W := W)
      (by rw [payload_cell m c (out k)]; exact BI.Entails.refl _)
      (by rw [payload_cell m (peer c) (inc k)]
          exact Entails.of_eq ((holds_write rM (peer c) k f (sent m c) _ rfl).trans (by unfold pay; rw [peer_peer])))) $$ [Hs Hr Ht Hu HO]
  · isplitr; · iapply (inv_at m K c (out k)); iexact HR
    isplitr; · iapply (inv_at m K (peer c) (inc k)); iexact HR
    isplitl [Hs]; · iexact Hs
    isplitl [Hr]; · iexact Hr
    isplitl [HO]; · iexact HO
    isplitl [Ht]; · iexact Ht
    isplitr; · iapply (reached_at m K c (out k)); iexact HR
    isplitl [Hu]; · iexact Hu
    iapply (reached_at m K (peer c) (inc k)); iexact HR
  iintro ⟨Hc, HO⟩
  rw [wp_ret]; imodintro
  iapply Hk
  isplitl [Hc]; · iexact Hc
  iexists W; iexact HO

/-- Awaiting a cell's round: what its payment hands over, and the cell's counter back at zero. -/
theorem await (K : Dev nD × Cell → ℕ) (c : Dev nD) (j : Cell) (n : ℕ) (hn : n = units j) (w : TpuEff nD τ sig (Elt F) Λ₀ .tc PUnit)
    (hw : ∀ R : PUnit → sProp 𝕄, wpE (defs₀ (F := F)) 𝒱₀ (c : Thread nD τ) none Set.univ w R = waitSpec (c : Thread nD τ) Set.univ (csem j) n R)
    (O : CellTallies nD τ sig Unit) (hO : (levAts L lv : sProp 𝕄) ⊢ MayWait (c : Thread nD τ) (csem j) () O)
    (p : PUnit → Steps F) (Q : PUnit → sProp 𝕄) :
    iprop(levAts L lv ∗ records m K ∗ cred (tallyAt (kcell c j) () n) ∗ place c j ∗ owing c O)
      ⊢ iprop(((pay m c j ∗ semVal (kcell c j) 0 ∗ owing c O) -∗ runs c (p ⟨⟩) Q) -∗ runs c (.op w p) Q) := by
  unfold owing runs
  iintro ⟨Hlev, #HR, Hc, Hat, ⟨%W, HO⟩⟩ Hk
  iapply (Rounds.wp_wait_rest_token 𝒱₀ ER (sched m) (c : Thread nD τ) none (κ := K (c, j)) hw (Set.mem_univ _) ()
      (O := O) (W := W) (R := 0) (m := 0) (T := ∅) (by rw [expect_cell m c j, hn, Nat.zero_add])) $$ [Hlev Hc Hat HO]
  · isplitr; · iapply (inv_at m K c j); iexact HR
    isplitl [Hc]; · iexact Hc
    isplitl [HO]; · iexact HO
    isplitl [Hlev]; · iapply hO; iexact Hlev
    iexact Hat
  iintro ⟨HO, Hat, -, Hp⟩
  ihave Hp := (Entails.of_eq (rest_cell m c j)) $$ Hp
  ihave Hinv := (inv_at m K c j) $$ HR
  imod (Rounds.cell_close ER (sched m) (Set.mem_univ (K (c, j))) (fun h => h) (R := 0 + 1) (duties_later m (kcell c j))) $$ [Hinv Hat] with Hz
  · isplitl [Hinv]; · iexact Hinv
    iexact Hat
  iapply Hk
  isplitl [Hp]; · iexact Hp
  isplitl [Hz]; · iexact Hz
  iexists _; iexact HO

theorem corner : (![0, 0] : Fin 2 → Nat) = fun _ => 0 := funext fun a => by fin_cases a <;> rfl
/-- The buffer of the columns kept, read whole; -/
theorem read_kM (f : (cc0_scratch1 : Ref sig .tc).ty.Contents (Elt F)) : (kM).view.readAt (Elt F) full.toLoadRect f = f :=
  Memref.readAt_unit_zero (Elt F) cc0_scratch1 corner _ f
/-- the result, written whole. -/
theorem write_oM (f w : (cc0_stg0_0 : Ref sig .tc).ty.Contents (Elt F)) :
    ((oM).access full : View sig .tc _ _ _).write (Elt F) f w Finset.univ = w :=
  Memref.write_access_unit_zero_univ (Elt F) cc0_stg0_0 corner _ f w

theorem step_keep (c : Dev nD) (q : PosShare TreeShare) (O : CellTallies nD τ sig Unit)
    (hO : (levAts L lv : sProp 𝕄) ⊢ MayWait (c : Thread nD τ) (.dma keepS) () O)
    (o : Buf (Elt F) ((oM).view.loc (c : Thread nD τ))) (Q : PUnit → sProp 𝕄) :
    iprop(levAts L lv ∗ keeping m c q ∗ buf oM c o ∗ owing c O)
      ⊢ iprop(((arg m c q ∗ buf kM c (half m (mine c) c) ∗ semVal ((c : Thread nD τ), SemLoc.dma keepS) 0
            ∗ buf oM c (kept m c) ∗ owing c O) -∗ Q ⟨⟩)
          -∗ runs c (keep (mine c)) Q) := by
  unfold keeping owing runs keep
  simp only [Prog.lift, Prog.bind_op, Prog.bind_ret]
  iintro ⟨Hlev, ⟨Hfl, Hrest⟩, Ho, ⟨%W, HO⟩⟩ Hk
  iapply (Transfers.wp_waitLocalO EC 𝒱₀ (c : Thread nD τ) none (srcw := xHalf (mine c)) (dstw := kM) () (N := Nk) rfl) $$ [Hlev Hfl HO]
  · isplitl [Hfl]; · iexact Hfl
    isplitl [HO]; · iexact HO
    iapply hO; iexact Hlev
  iintro ⟨⟨Hf, Hx⟩, Hv, HO⟩
  ihave Hx := (arg_join m c q _) $$ [Hx Hrest]
  · isplitl [Hx]; · iexact Hx
    iexact Hrest
  unfold buf
  iapply (wp_load 𝒱₀ (c : Thread nD τ) none Set.univ (m := kM) (Finset.subset_univ _)) $$ Hf; iintro Hf
  rw [read_kM]
  iapply (wp_load 𝒱₀ (c : Thread nD τ) none Set.univ (m := oM) (Finset.subset_univ _)) $$ Ho; iintro Ho
  iapply (wp_store 𝒱₀ (c : Thread nD τ) none Set.univ (m := oM) (r := full) (Mk := Finset.univ) (Finset.subset_univ _)) $$ Ho
  iintro Ho
  rw [write_oM, wp_ret]; imodintro
  iapply Hk
  isplitl [Hx]; · iexact Hx
  isplitl [Hf]; · iexact Hf
  isplitl [Hv]; · iexact Hv
  isplitl [Ho]; · iexact Ho
  iexists _; iexact HO

/-- Once nothing is owed a wait on any cell is allowed. -/
theorem mayWait_done (c : Dev nD) (s : SemLoc sig) : (levAts L lv : sProp 𝕄) ⊢ MayWait (c : Thread nD τ) s () (owe c []) := by
  rw [show owe c [] = 0 from rfl, MayWait_zero]; iintro -; iempintro

/-- The waits on a receive cell; -/
theorem wait_inc (c : Dev nD) (k : Fin 4) (hs : (part sM k).view.WordExact) (hd : (part rM k).view.WordExact) (R : PUnit → sProp 𝕄) :
    wpE (defs₀ (F := F)) 𝒱₀ (c : Thread nD τ) none Set.univ (.waitDma2 (recvS k) (part sM k) (part rM k) hs hd) R
      = waitSpec (c : Thread nD τ) Set.univ (csem (inc k)) N R :=
  wpE_waitDma2_eq 𝒱₀ (c : Thread nD τ) none Set.univ (src := part sM k) (dst := part rM k) R
/-- and on a send cell. -/
theorem wait_out (c : Dev nD) (k : Fin 4) (hs : (part rM k).view.WordExact) (hd : (part sM k).view.WordExact) (R : PUnit → sProp 𝕄) :
    wpE (defs₀ (F := F)) 𝒱₀ (c : Thread nD τ) none Set.univ (.waitDma2 (sendS k) (part rM k) (part sM k) hs hd) R
      = waitSpec (c : Thread nD τ) Set.univ (csem (out k)) N R :=
  wpE_waitDma2_eq 𝒱₀ (c : Thread nD τ) none Set.univ (src := part rM k) (dst := part sM k) R

theorem step_gather (K : Dev nD × Cell → ℕ) (c : Dev nD) (k : Fin 4) (Q : PUnit → sProp 𝕄) :
    iprop(levAts L lv ∗ records m K ∗ cred (tallyAt (kcell c (inc k)) () N) ∗ place c (inc k) ∗ holds oM c k (kept m c) ∗ owing c (owe c []))
      ⊢ iprop(((holds rM c k (sent m (peer c)) ∗ semVal (kcell c (inc k)) 0 ∗ holds oM c k (result m c) ∗ owing c (owe c [])) -∗ Q ⟨⟩)
          -∗ runs c (gather k) Q) := by
  unfold gather
  simp only [Prog.lift, Prog.bind_op, Prog.bind_ret]
  iintro ⟨Hlev, #HR, Hc, Hat, Ho, HO⟩ Hk
  iapply (await m K c (inc k) N rfl _ (wait_inc c k _ _) (owe c []) (mayWait_done c _) _ Q) $$ [Hlev Hc Hat HO]
  · isplitl [Hlev]; · iexact Hlev
    isplitr; · iexact HR
    isplitl [Hc]; · iexact Hc
    isplitl [Hat] <;> iassumption
  iintro ⟨Hr, Hv, HO⟩
  unfold pay holds runs
  iapply (wp_load_rect 𝒱₀ (c : Thread nD τ) none Set.univ (m := oM) (r := chunk k) (Finset.Subset.refl _)) $$ Ho; iintro Ho
  iapply (wp_load_rect 𝒱₀ (c : Thread nD τ) none Set.univ (m := rM) (r := chunk k) (Finset.Subset.refl _)) $$ Hr; iintro Hr
  iapply (wp_load_rect 𝒱₀ (c : Thread nD τ) none Set.univ (m := oM) (r := chunk k) (Finset.Subset.refl _)) $$ Ho; iintro Ho
  iapply (wp_store 𝒱₀ (c : Thread nD τ) none Set.univ (m := oM) (r := chunk k) (Mk := Finset.univ) (View.setOn_subset_set _ _)) $$ Ho
  iintro Ho
  ihave Ho := (Entails.of_eq (holds_write oM c k (kept m c) (result m c) _ (add_part k (kept m c) (sent m (peer c))))) $$ Ho
  rw [wp_ret]; imodintro
  iapply Hk
  isplitl [Hr]; · iexact Hr
  isplitl [Hv]; · iexact Hv
  isplitl [Ho]; · unfold holds; iexact Ho
  iexact HO

theorem step_drain (K : Dev nD × Cell → ℕ) (c : Dev nD) (k : Fin 4) (Q : PUnit → sProp 𝕄) :
    iprop(levAts L lv ∗ records m K ∗ cred (tallyAt (kcell c (out k)) () N) ∗ place c (out k) ∗ owing c (owe c []))
      ⊢ iprop(((holds sM c k (sent m c) ∗ semVal (kcell c (out k)) 0 ∗ owing c (owe c [])) -∗ Q ⟨⟩) -∗ runs c (drain k) Q) := by
  unfold drain
  simp only [Prog.lift]
  iintro ⟨Hlev, #HR, Hc, Hat, HO⟩ Hk
  iapply (await m K c (out k) N rfl _ (wait_out c k _ _) (owe c []) (mayWait_done c _) _ Q) $$ [Hlev Hc Hat HO]
  · isplitl [Hlev]; · iexact Hlev
    isplitr; · iexact HR
    isplitl [Hc]; · iexact Hc
    isplitl [Hat] <;> iassumption
  iintro H
  unfold runs pay
  rw [wp_ret]; imodintro
  iapply Hk; iexact H

/-- The signal to the partner, which hands it this device's receive buffer. -/
theorem step_signal (K : Dev nD × Cell → ℕ) (c : Dev nD) (f : Buf (Elt F) ((rM).view.loc (c : Thread nD τ))) (Q : PUnit → sProp 𝕄) :
    iprop(records m K ∗ buf rM c f ∗ right (peer c) bar ∗ owing c (O₀ c))
      ⊢ iprop((owing c (owe c [0, 1, 2, 3]) -∗ Q ⟨⟩) -∗ runs c (semSignalWord (peer c) barS 1#32) Q) := by
  unfold owing runs O₀
  simp only [semSignalWord, Prog.lift]
  iintro ⟨#HR, Hr, Ht, ⟨%W, HO⟩⟩ Hk
  iapply (Rounds.wp_signal 𝒱₀ ER (sched m) (c : Thread nD τ) none (dst := (peer c : Thread nD τ)) (κ := K (peer c, bar))
      (d := ()) (duty_cell m (peer c) bar) ((amount_cell m (peer c) bar ()).trans (by decide)) () (owe c [0, 1, 2, 3]) rfl) $$ [Hr Ht HO]
  · isplitr; · iapply (inv_at m K (peer c) bar); iexact HR
    isplitl [HO]; · iexact HO
    isplitl [Ht]; · iexact Ht
    isplitl [Hr]
    · rw [payload_cell m (peer c) bar]; unfold pay; rw [peer_peer]
      iexists f; rw [← whole_eq_parts rM (View.set_whole _)]; unfold buf; iexact Hr
    · iapply (reached_at m K (peer c) bar); iexact HR
  iintro HO
  rw [wp_ret]; imodintro
  iapply Hk; iexists W; iexact HO

/-- The wait for the partner's signal, which hands over the partner's receive buffer. -/
theorem step_barrier (K : Dev nD × Cell → ℕ) (c : Dev nD) (ks : List (Fin 4)) (Q : PUnit → sProp 𝕄) :
    iprop(levAts L lv ∗ records m K ∗ cred (tallyAt (kcell c bar) () 1) ∗ place c bar ∗ owing c (owe c ks))
      ⊢ iprop((((∃ f, bigSep Finset.univ fun k => holds rM (peer c) k f) ∗ semVal (kcell c bar) 0 ∗ owing c (owe c ks)) -∗ Q ⟨⟩)
          -∗ runs c (semWaitWord barS 1#32) Q) := by
  simp only [semWaitWord, Prog.lift]
  iintro ⟨Hlev, #HR, Hc, Hat, HO⟩ Hk
  iapply (await m K c bar 1 rfl _ (wpE_semWait_eq 𝒱₀ (c : Thread nD τ) none Set.univ) (owe c ks)
      (mayWait_owe c (csem bar) (by rw [lv_bar c ()]; decide) ks) _ Q) $$ [Hlev Hc Hat HO]
  · isplitl [Hlev]; · iexact Hlev
    isplitr; · iexact HR
    isplitl [Hc]; · iexact Hc
    isplitl [Hat] <;> iassumption
  iintro H
  unfold runs pay
  rw [wp_ret]; imodintro
  iapply Hk; iexact H

end Cert.HalfReduce

end
-- ==== Proof.Exchange.lean ====
/-
The exchange of one device with its partner, run step by step.
-/
module

public import proofs.«01_k».proof.Proof.Steps

@[expose] public section

noncomputable section

namespace Cert.HalfReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Chunk by chunk -/

/-- Steps run on the four chunks in turn take each chunk's start to its end, the invariant part kept throughout. -/
theorem each (c : Dev nD) (p : Fin 4 → Steps F) (A B : Fin 4 → sProp 𝕄) (I : sProp 𝕄)
    (h : ∀ (k : Fin 4) (Q : PUnit → sProp 𝕄), iprop(A k ∗ I) ⊢ iprop(((B k ∗ I) -∗ Q ⟨⟩) -∗ runs c (p k) Q)) (Q : PUnit → sProp 𝕄) :
    iprop((bigSep Finset.univ A) ∗ I)
      ⊢ iprop((((bigSep Finset.univ B) ∗ I) -∗ Q ⟨⟩)
          -∗ runs c (p 0) fun _ => runs c (p 1) fun _ => runs c (p 2) fun _ => runs c (p 3) Q) := by
  rw [bigSep_fin4, bigSep_fin4]
  iintro ⟨⟨H0, H1, H2, H3⟩, HI⟩ Hk
  iapply (h 0 _) $$ [H0 HI]
  · isplitl [H0] <;> iassumption
  iintro ⟨H0, HI⟩
  iapply (h 1 _) $$ [H1 HI]
  · isplitl [H1] <;> iassumption
  iintro ⟨H1, HI⟩
  iapply (h 2 _) $$ [H2 HI]
  · isplitl [H2] <;> iassumption
  iintro ⟨H2, HI⟩
  iapply (h 3 _) $$ [H3 HI]
  · isplitl [H3] <;> iassumption
  iintro ⟨H3, HI⟩
  iapply Hk
  isplitl [H0 H1 H2 H3]
  · isplitl [H0]; · iexact H0
    isplitl [H1]; · iexact H1
    isplitl [H2] <;> iassumption
  iexact HI

/-- The share of the argument that chunk `k`'s fetch reads under. -/
abbrev lent (k : Fin 4) : PosShare TreeShare := Transfers.shareTok fullShare 4 k
/-- The share the fetch of the half to keep reads under. -/
abbrev left : PosShare TreeShare := Transfers.shareDrop fullShare 4

/-- Chunk `k` of the fetch buffer, its read share of the argument and its idle semaphore. -/
def idle (c : Dev nD) (f : Buf (Elt F) ((fM).view.loc (c : Thread nD τ))) (k : Fin 4) : sProp 𝕄 :=
  iprop(arg m c (lent k) ∗ holds fM c k f ∗ semVal ((c : Thread nD τ), SemLoc.dma (fetchS k)) 0)
/-- What chunk `k`'s sending takes besides the partner's rows: its flight, its rows of the send buffer, the two rights. -/
def loose (c : Dev nD) (s : Buf (Elt F) ((sM).view.loc (c : Thread nD τ))) (k : Fin 4) : sProp 𝕄 :=
  iprop(fetching m c k (lent k) ∗ holds sM c k s ∗ right c (out k) ∗ right (peer c) (inc k))

theorem fetchS_low (c : Dev nD) (k : Fin 4) : lv ((c : Thread nD τ), .dma (fetchS k)) () < 2 := by rw [lv_fetch]; decide

/-- Rounding chunk `k` and sending it. -/
theorem step_send (K : Dev nD × Cell → ℕ) (c : Dev nD) (k : Fin 4) (ks : List (Fin 4))
    (s : Buf (Elt F) ((sM).view.loc (c : Thread nD τ))) (f : Buf (Elt F) ((rM).view.loc (peer c : Thread nD τ))) (Q : PUnit → sProp 𝕄) :
    iprop(levAts L lv ∗ records m K ∗ loose m c s k ∗ holds rM (peer c) k f ∗ owing c (owe c (k :: ks)))
      ⊢ iprop(((idle m c (half m (theirs c) c) k ∗ cred (tallyAt (kcell c (out k)) () N) ∗ owing c (owe c ks)) -∗ Q ⟨⟩)
          -∗ runs c (round (theirs c) k) fun _ => runs c (push (peer c) k) Q) := by
  unfold loose idle
  iintro ⟨Hlev, #HR, ⟨Hf, Hs, Ht, Hu⟩, Hr, HO⟩ Hk
  iapply (step_round m c k (lent k) (owe c (k :: ks)) (mayWait_owe c _ (fetchS_low c k) _) s _) $$ [Hlev Hf Hs HO]
  · isplitl [Hlev]; · iexact Hlev
    isplitl [Hf]; · iexact Hf
    isplitl [Hs] <;> iassumption
  iintro ⟨Hx, Hf, Hv, Hs, HO⟩
  iapply (step_push m K c k ks f Q) $$ [Hs Hr Ht Hu HO]
  · isplitr; · iexact HR
    isplitl [Hs]; · iexact Hs
    isplitl [Hr]; · iexact Hr
    isplitl [Ht]; · iexact Ht
    isplitl [Hu] <;> iassumption
  iintro ⟨Hc, HO⟩
  iapply Hk
  isplitl [Hx Hf Hv]
  · isplitl [Hx]; · iexact Hx
    isplitl [Hf] <;> iassumption
  isplitl [Hc] <;> iassumption

/-! ## The exchange -/

/-- What the exchange starts from, its buffers at any contents. -/
def before (K : Dev nD × Cell → ℕ) (c : Dev nD) : sProp 𝕄 :=
  iprop(levAts L lv ∗ records m K ∗ arg m c fullShare
    ∗ (∃ f, buf fM c f) ∗ (∃ f, buf kM c f) ∗ (∃ f, buf sM c f) ∗ (∃ f, buf oM c f)
    ∗ (bigSep Finset.univ fun k => semVal ((c : Thread nD τ), SemLoc.dma (fetchS k)) 0) ∗ semVal ((c : Thread nD τ), SemLoc.dma keepS) 0
    ∗ (cred (tallyAt (kcell c bar) () 1) ∗ place c bar)
    ∗ (bigSep Finset.univ fun k => right c (out k)) ∗ (bigSep Finset.univ fun k => place c (out k))
    ∗ (bigSep Finset.univ fun k => right (peer c) (inc k)) ∗ (bigSep Finset.univ fun k => place c (inc k))
    ∗ (bigSep Finset.univ fun k => cred (tallyAt (kcell c (inc k)) () N))
    ∗ owing c (owe c [0, 1, 2, 3]))

/-- What it ends with: the result, every semaphore back at zero, nothing owed. -/
def after (c : Dev nD) : sProp 𝕄 :=
  iprop(arg m c fullShare ∗ buf oM c (result m c)
    ∗ (buf fM c (half m (theirs c) c) ∗ buf kM c (half m (mine c) c) ∗ buf sM c (sent m c) ∗ buf rM c (sent m (peer c)))
    ∗ (bigSep Finset.univ fun k => semVal ((c : Thread nD τ), SemLoc.dma (fetchS k)) 0) ∗ semVal ((c : Thread nD τ), SemLoc.dma keepS) 0
    ∗ semVal (kcell c bar) 0 ∗ (bigSep Finset.univ fun k => semVal (kcell c (out k)) 0) ∗ (bigSep Finset.univ fun k => semVal (kcell c (inc k)) 0)
    ∗ owing c 0)

/-- The argument dealt into the read shares of the fetches. -/
theorem arg_deal (c : Dev nD) : arg m c fullShare ⊣⊢ iprop(arg m c left ∗ bigSep Finset.univ fun k => arg m c (lent k)) := by
  unfold arg
  exact ⟨Transfers.pointsTo_toks_split fullShare 4, Transfers.pointsTo_toks_join fullShare 4⟩

theorem idle_eq (c : Dev nD) (f : Buf (Elt F) ((fM).view.loc (c : Thread nD τ))) :
    (bigSep Finset.univ (idle m c f)) = iprop((bigSep Finset.univ fun k => arg m c (lent k)) ∗ buf fM c f
      ∗ (bigSep Finset.univ fun k => semVal ((c : Thread nD τ), SemLoc.dma (fetchS k)) 0)) := by
  unfold idle buf
  rw [bigSep_sep', bigSep_sep', whole_eq_parts fM (View.set_whole _)]

theorem loose_eq (c : Dev nD) (s : Buf (Elt F) ((sM).view.loc (c : Thread nD τ))) :
    (bigSep Finset.univ (loose m c s)) = iprop((bigSep Finset.univ fun k => fetching m c k (lent k))
      ∗ (bigSep Finset.univ fun k => holds sM c k s) ∗ (bigSep Finset.univ fun k => right c (out k))
      ∗ (bigSep Finset.univ fun k => right (peer c) (inc k))) := by
  unfold loose
  rw [bigSep_sep', bigSep_sep', bigSep_sep']

/-- Before chunk `k` from the partner is awaited, -/
def awaited (c : Dev nD) (k : Fin 4) : sProp 𝕄 :=
  iprop(cred (tallyAt (kcell c (inc k)) () N) ∗ place c (inc k) ∗ holds oM c k (kept m c))
/-- and after it is added. -/
def arrived (c : Dev nD) (k : Fin 4) : sProp 𝕄 :=
  iprop(holds rM c k (sent m (peer c)) ∗ semVal (kcell c (inc k)) 0 ∗ holds oM c k (result m c))
theorem awaited_eq (c : Dev nD) :
    (bigSep Finset.univ (awaited m c)) = iprop((bigSep Finset.univ fun k => cred (tallyAt (kcell c (inc k)) () N))
      ∗ (bigSep Finset.univ fun k => place c (inc k)) ∗ bigSep Finset.univ fun k => holds oM c k (kept m c)) := by
  unfold awaited
  rw [bigSep_sep', bigSep_sep']
theorem arrived_eq (c : Dev nD) :
    (bigSep Finset.univ (arrived m c)) = iprop(buf rM c (sent m (peer c)) ∗ (bigSep Finset.univ fun k => semVal (kcell c (inc k)) 0)
      ∗ buf oM c (result m c)) := by
  unfold arrived buf
  rw [bigSep_sep', bigSep_sep', whole_eq_parts rM (View.set_whole _), whole_eq_parts oM (View.set_whole _)]

/-- Before chunk `k` is known to have left, -/
def leaving (c : Dev nD) (k : Fin 4) : sProp 𝕄 := iprop(cred (tallyAt (kcell c (out k)) () N) ∗ place c (out k))
/-- and after. -/
def departed (c : Dev nD) (k : Fin 4) : sProp 𝕄 := iprop(holds sM c k (sent m c) ∗ semVal (kcell c (out k)) 0)
theorem leaving_eq (c : Dev nD) :
    (bigSep Finset.univ (leaving (F := F) c)) = iprop((bigSep Finset.univ fun k => cred (tallyAt (kcell c (out k)) () N))
      ∗ bigSep Finset.univ fun k => place c (out k)) := by
  unfold leaving
  rw [bigSep_sep']
theorem departed_eq (c : Dev nD) :
    (bigSep Finset.univ (departed m c)) = iprop(buf sM c (sent m c) ∗ bigSep Finset.univ fun k => semVal (kcell c (out k)) 0) := by
  unfold departed buf
  rw [bigSep_sep', whole_eq_parts sM (View.set_whole _)]

theorem exchange_run (K : Dev nD × Cell → ℕ) (c : Dev nD) (Q : PUnit → sProp 𝕄) :
    before m K c ⊢ iprop((after m c -∗ Q ⟨⟩) -∗ runs c (exchange (mine c) (theirs c) fun _ => peer c) Q) := by
  unfold before exchange runs
  simp only [wp_bind]
  iintro ⟨#Hlev, #HR, Hx, ⟨%f, Hf⟩, ⟨%g, Hg⟩, ⟨%s, Hs⟩, ⟨%o, Ho⟩, Hvf, Hvk, ⟨Hcb, Hab⟩, Hto, Hao, Hti, Hai, Hci, HO⟩ Hk
  ihave Hx := (arg_deal m c).1 $$ Hx
  icases Hx with ⟨Hx, Hxs⟩
  ihave Hfs := (Entails.of_eq (idle_eq m c f).symm) $$ [Hxs Hf Hvf]
  · isplitl [Hxs]; · iexact Hxs
    isplitl [Hf] <;> iassumption
  -- the fetches
  iapply (each c (fetch (theirs c)) (idle m c f) (fun k => fetching m c k (lent k)) iprop(emp) (fun k Q => by
      iintro ⟨H, -⟩ Hk
      unfold idle
      iapply (step_fetch m c k (lent k) f Q) $$ H
      iintro H
      iapply Hk
      isplitl [H]; · iexact H
      iempintro) _) $$ [Hfs]
  · isplitl [Hfs]; · iexact Hfs
    iempintro
  iintro ⟨Hfs, -⟩
  iapply (step_fetchKeep m c left g _) $$ [Hx Hg Hvk]
  · isplitl [Hx]; · iexact Hx
    isplitl [Hg] <;> iassumption
  iintro Hkeep
  -- the sends
  ihave Hs := (Entails.of_eq (whole_eq_parts sM (View.set_whole _) c s)) $$ [Hs]
  · unfold buf; iexact Hs
  ihave Hl := (Entails.of_eq (loose_eq m c s).symm) $$ [Hfs Hs Hto Hti]
  · isplitl [Hfs]; · iexact Hfs
    isplitl [Hs]; · iexact Hs
    isplitl [Hto] <;> iassumption
  ihave Hl := (Entails.of_eq (bigSep_fin4 (loose m c s))) $$ Hl
  icases Hl with ⟨Hl0, Hl1, Hl2, Hl3⟩
  ihave Hl0 := (Entails.of_eq (show loose m c s 0 = iprop(fetching m c 0 (lent 0) ∗ holds sM c 0 s ∗ right c (out 0) ∗ right (peer c) (inc 0)) from rfl)) $$ Hl0
  icases Hl0 with ⟨Hf0, Hs0, Ht0, Hu0⟩
  iapply (step_round m c 0 (lent 0) (owe c [0, 1, 2, 3]) (mayWait_owe c _ (fetchS_low c 0) _) s _) $$ [Hf0 Hs0 HO]
  · isplitr; · iexact Hlev
    isplitl [Hf0]; · iexact Hf0
    isplitl [Hs0] <;> iassumption
  iintro ⟨Hx0, Hf0, Hv0, Hs0, HO⟩
  iapply (step_barrier m K c [0, 1, 2, 3] _) $$ [Hcb Hab HO]
  · isplitr; · iexact Hlev
    isplitr; · iexact HR
    isplitl [Hcb]; · iexact Hcb
    isplitl [Hab] <;> iassumption
  iintro ⟨⟨%r, Hr⟩, Hvb, HO⟩
  ihave Hr := (Entails.of_eq (bigSep_fin4 (fun k => holds rM (peer c) k r))) $$ Hr
  icases Hr with ⟨Hr0, Hr1, Hr2, Hr3⟩
  iapply (step_push m K c 0 [1, 2, 3] r _) $$ [Hs0 Hr0 Ht0 Hu0 HO]
  · isplitr; · iexact HR
    isplitl [Hs0]; · iexact Hs0
    isplitl [Hr0]; · iexact Hr0
    isplitl [Ht0]; · iexact Ht0
    isplitl [Hu0] <;> iassumption
  iintro ⟨Hc0, HO⟩
  iapply (step_send m K c 1 [2, 3] s r _) $$ [Hl1 Hr1 HO]
  · isplitr; · iexact Hlev
    isplitr; · iexact HR
    isplitl [Hl1]; · iexact Hl1
    isplitl [Hr1] <;> iassumption
  iintro ⟨Hi1, Hc1, HO⟩
  iapply (step_send m K c 2 [3] s r _) $$ [Hl2 Hr2 HO]
  · isplitr; · iexact Hlev
    isplitr; · iexact HR
    isplitl [Hl2]; · iexact Hl2
    isplitl [Hr2] <;> iassumption
  iintro ⟨Hi2, Hc2, HO⟩
  iapply (step_send m K c 3 [] s r _) $$ [Hl3 Hr3 HO]
  · isplitr; · iexact Hlev
    isplitr; · iexact HR
    isplitl [Hl3]; · iexact Hl3
    isplitl [Hr3] <;> iassumption
  iintro ⟨Hi3, Hc3, HO⟩
  -- the half to keep
  iapply (step_keep m c left (owe c []) (mayWait_done c _) o _) $$ [Hkeep Ho HO]
  · isplitr; · iexact Hlev
    isplitl [Hkeep]; · iexact Hkeep
    isplitl [Ho] <;> iassumption
  iintro ⟨Hx, Hg, Hvk, Ho, HO⟩
  -- the arrivals
  ihave Ho := (Entails.of_eq (whole_eq_parts oM (View.set_whole _) c (kept m c))) $$ [Ho]
  · unfold buf; iexact Ho
  iapply (each c gather (awaited m c) (arrived m c) iprop(levAts L lv ∗ records m K ∗ owing c (owe c [])) (fun k Q => by
      unfold awaited arrived
      iintro ⟨⟨Hc, Ha, Ho⟩, #Hlev, #HR, HO⟩ Hk
      iapply (step_gather m K c k Q) $$ [Hc Ha Ho HO]
      · isplitr; · iexact Hlev
        isplitr; · iexact HR
        isplitl [Hc]; · iexact Hc
        isplitl [Ha]; · iexact Ha
        isplitl [Ho] <;> iassumption
      iintro ⟨Hr, Hv, Ho, HO⟩
      iapply Hk
      isplitl [Hr Hv Ho]
      · isplitl [Hr]; · iexact Hr
        isplitl [Hv] <;> iassumption
      isplitr; · iexact Hlev
      isplitr; · iexact HR
      iexact HO) _) $$ [Hci Hai Ho HO]
  · isplitl [Hci Hai Ho]
    · iapply (Entails.of_eq (awaited_eq m c).symm)
      isplitl [Hci]; · iexact Hci
      isplitl [Hai] <;> iassumption
    isplitr; · iexact Hlev
    isplitr; · iexact HR
    iexact HO
  iintro ⟨Hgot, -, -, HO⟩
  ihave Hgot := (Entails.of_eq (arrived_eq m c)) $$ Hgot
  icases Hgot with ⟨Hr, Hvi, Ho⟩
  -- the departures
  iapply (each c drain (leaving c) (departed m c) iprop(levAts L lv ∗ records m K ∗ owing c (owe c [])) (fun k Q => by
      unfold leaving departed
      iintro ⟨⟨Hc, Ha⟩, #Hlev, #HR, HO⟩ Hk
      iapply (step_drain m K c k Q) $$ [Hc Ha HO]
      · isplitr; · iexact Hlev
        isplitr; · iexact HR
        isplitl [Hc]; · iexact Hc
        isplitl [Ha] <;> iassumption
      iintro ⟨Hs, Hv, HO⟩
      iapply Hk
      isplitl [Hs Hv]
      · isplitl [Hs] <;> iassumption
      isplitr; · iexact Hlev
      isplitr; · iexact HR
      iexact HO) _) $$ [Hc0 Hc1 Hc2 Hc3 Hao HO]
  · isplitl [Hc0 Hc1 Hc2 Hc3 Hao]
    · iapply (Entails.of_eq (leaving_eq c).symm)
      isplitl [Hc0 Hc1 Hc2 Hc3]
      · iapply (Entails.of_eq (bigSep_fin4 (fun k => (cred (tallyAt (kcell c (out k)) () N) : sProp 𝕄))).symm)
        isplitl [Hc0]; · iexact Hc0
        isplitl [Hc1]; · iexact Hc1
        isplitl [Hc2] <;> iassumption
      iexact Hao
    isplitr; · iexact Hlev
    isplitr; · iexact HR
    iexact HO
  iintro ⟨Hgone, -, -, HO⟩
  ihave Hgone := (Entails.of_eq (departed_eq m c)) $$ Hgone
  icases Hgone with ⟨Hs, Hvo⟩
  -- the fetch buffer, the read shares and the fetches' semaphores together again
  ihave Hi := (Entails.of_eq ((bigSep_fin4 (idle m c (half m (theirs c) c))).symm.trans (idle_eq m c _))) $$ [Hx0 Hf0 Hv0 Hi1 Hi2 Hi3]
  · isplitl [Hx0 Hf0 Hv0]
    · unfold idle
      isplitl [Hx0]; · iexact Hx0
      isplitl [Hf0] <;> iassumption
    isplitl [Hi1]; · iexact Hi1
    isplitl [Hi2] <;> iassumption
  icases Hi with ⟨Hxs, Hf, Hvf⟩
  iapply Hk
  unfold after
  isplitl [Hx Hxs]
  · iapply (arg_deal m c).2
    isplitl [Hx] <;> iassumption
  isplitl [Ho]; · iexact Ho
  isplitl [Hf Hg Hs Hr]
  · isplitl [Hf]; · iexact Hf
    isplitl [Hg]; · iexact Hg
    isplitl [Hs] <;> iassumption
  isplitl [Hvf]; · iexact Hvf
  isplitl [Hvk]; · iexact Hvk
  isplitl [Hvb]; · iexact Hvb
  isplitl [Hvo]; · iexact Hvo
  isplitl [Hvi]; · iexact Hvi
  iexact HO

end Cert.HalfReduce

end
-- ==== Proof.Body.lean ====
/-
The kernel's body on one device: what it starts from and what it ends with, in the form the launch asks for.
-/
module

public import proofs.«01_k».proof.Proof.Exchange

@[expose] public section

noncomputable section

namespace Cert.HalfReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after -/

/-- The semaphores of a device's own transfers, idle. -/
def locals (c : Dev nD) : sProp 𝕄 :=
  iprop((bigSep Finset.univ fun k => semVal ((c : Thread nD τ), SemLoc.dma (fetchS k)) 0) ∗ semVal ((c : Thread nD τ), SemLoc.dma keepS) 0)
/-- A device's places in its rounds. -/
def places (c : Dev nD) : sProp 𝕄 :=
  iprop(place c bar ∗ (bigSep Finset.univ fun k => place c (out k)) ∗ bigSep Finset.univ fun k => place c (inc k))
/-- The rights to the payments a device makes: its partner's barrier, its own sends, its partner's receives. -/
def payToks (c : Dev nD) : sProp 𝕄 :=
  iprop(right (peer c) bar ∗ (bigSep Finset.univ fun k => right c (out k)) ∗ bigSep Finset.univ fun k => right (peer c) (inc k))
/-- The ghost state of a device. -/
def ghost (c : Dev nD) : sProp 𝕄 := iprop(∃ K, records m K ∗ places c ∗ payToks c ∗ locals c)

/-- What a device's body starts from: that, the credit its partner owes it, its argument and the levels; -/
def start (c : Dev nD) : sProp 𝕄 :=
  iprop(ghost m c ∗ (cred (tallyAt (kcell c bar) () 1) ∗ bigSep Finset.univ fun k => cred (tallyAt (kcell c (inc k)) () N))
    ∗ arg m c fullShare ∗ levAts L lv)
/-- with its four buffers at any contents; -/
def Φ₀ (c : Dev nD) : sProp 𝕄 :=
  iprop(start m c ∗ (∃ f, buf fM c f) ∗ (∃ f, buf kM c f) ∗ (∃ f, buf sM c f) ∗ ∃ f, buf rM c f)
/-- what it ends with: its argument as it was, the buffers, every semaphore back at zero. -/
def Φ₁ (c : Dev nD) : sProp 𝕄 :=
  iprop(arg m c fullShare
    ∗ (buf fM c (half m (theirs c) c) ∗ buf kM c (half m (mine c) c) ∗ buf sM c (sent m c) ∗ buf rM c (sent m (peer c)))
    ∗ locals c ∗ semVal (kcell c bar) 0 ∗ (bigSep Finset.univ fun k => semVal (kcell c (out k)) 0) ∗ bigSep Finset.univ fun k => semVal (kcell c (inc k)) 0)

/-- The launch's data: the one window is the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- The body is the signal to the partner and the exchange with it. -/
theorem runs_body (c : Dev nD) (Q : PUnit → sProp 𝕄) :
    runs c body Q = runs c (semSignalWord (peer c) barS 1#32) fun _ => runs c (exchange (mine c) (theirs c) fun _ => peer c) Q := by
  unfold runs
  rw [body_eq, wp_bind, Prog.lift, wp_deviceId, wp_ret, fupd_wp_eq]
  refine (congrArg (fun p => runs c p Q) (body_run c)).trans ?_
  unfold runs
  rw [wp_bind]

/-- The result's staging buffer at the contents `X`. -/
abbrev stg (c : Dev nD) (X : Vec F S256x256 .bf16) : sProp 𝕄 :=
  iprop(∃ f : Buf (Elt F) ((oM).view.loc (c : Thread nD τ)), ⌜f = X⌝ ∗ buf oM c f)

def bodyPre (c : Dev nD) : sProp 𝕄 :=
  iprop(Φ₀ m c ∗ (dats m ρ 0 c).owesAt () t0_0.castSucc ∗ ∃ d, stg c ((dats m ρ 0 c).before (0 : Fin 1) t0_0 d))
def bodyPost (c : Dev nD) : sProp 𝕄 :=
  iprop(Φ₁ m c ∗ (dats m ρ 0 c).owesAt () t0_0.succ ∗ stg c (result m c))

/-- The body takes the one to the other. -/
theorem body_sound (c : Dev nD) : bodyPre m ρ c ⊢ runs c body fun _ => bodyPost m ρ c := by
  rw [runs_body]
  unfold bodyPre Φ₀ start ghost places payToks locals Dat.owesAt Pipeline.owesWithin
  rw [show (dats m ρ 0 c).owed t0_0.castSucc = O₀ c from rfl]
  iintro ⟨⟨⟨⟨%K, #HR, ⟨Hab, Hao, Hai⟩, ⟨Htb, Hto, Hti⟩, Hvf, Hvk⟩, ⟨Hcb, Hci⟩, Hx, #Hlev⟩, Hf, Hg, Hs, ⟨%r, Hr⟩⟩, ⟨%W, -, HO⟩, ⟨%d, %o, -, Ho⟩⟩
  iapply (step_signal m K c r _) $$ [Hr Htb HO]
  · isplitr; · iexact HR
    isplitl [Hr]; · iexact Hr
    isplitl [Htb]; · iexact Htb
    unfold owing; iexists W; iexact HO
  iintro HO
  iapply (exchange_run m K c _) $$ [Hab Hao Hai Hto Hti Hvf Hvk Hcb Hci Hx Hf Hg Hs Ho HO]
  · unfold before
    isplitr; · iexact Hlev
    isplitr; · iexact HR
    isplitl [Hx]; · iexact Hx
    isplitl [Hf]; · iexact Hf
    isplitl [Hg]; · iexact Hg
    isplitl [Hs]; · iexact Hs
    isplitl [Ho]; · iexists o; iexact Ho
    isplitl [Hvf]; · iexact Hvf
    isplitl [Hvk]; · iexact Hvk
    isplitl [Hcb Hab]
    · isplitl [Hcb] <;> iassumption
    isplitl [Hto]; · iexact Hto
    isplitl [Hao]; · iexact Hao
    isplitl [Hti]; · iexact Hti
    isplitl [Hai]; · iexact Hai
    isplitl [Hci]; · iexact Hci
    iexact HO
  unfold after owing
  iintro ⟨Hx, Ho, Hb, Hvf, Hvk, Hvb, Hvo, Hvi, ⟨%W', HO⟩⟩
  unfold bodyPost Φ₁ locals Dat.owesAt Pipeline.owesWithin
  rw [show (dats m ρ 0 c).owed t0_0.succ = 0 from rfl]
  isplitl [Hx Hb Hvf Hvk Hvb Hvo Hvi]
  · isplitl [Hx]; · iexact Hx
    isplitl [Hb]; · iexact Hb
    isplitl [Hvf Hvk]
    · isplitl [Hvf] <;> iassumption
    isplitl [Hvb]; · iexact Hvb
    isplitl [Hvo] <;> iassumption
  isplitl [HO]
  · iexists W'
    isplitr; · ipureintro; exact fun _ _ => Or.inl trivial
    iexact HO
  iexists (result m c)
  isplitr; · (ipureintro; rfl)
  iexact Ho

/-- Owning the result's staging buffer, as the launch words it. -/
theorem stg_owns (c : Dev nD) (X : Vec F S256x256 .bf16) :
    (owns (Ix := Unit) (Name := ℕ) (U := UU) (Lvl := ℕ) (c : Thread nD τ) oM fullShare X : sProp 𝕄) = stg c X := by
  unfold stg buf owns
  refine congrArg BI.BIBase.exists (funext fun f => ?_)
  rw [show (oM).view.read (Elt F) f = f from View.read_whole _ _, show (oM).view.set = Finset.univ from View.set_whole _]

/-- The library's obligation for the body. -/
theorem body_obligation (c : Dev nD) : BodyObligation (dats (F := F) m ρ 0 c) (defs₀ (F := F)) 𝒱₀ () Set.univ := fun t => by
  rw [fin_N0 t, bigSep_W0, bigSep_W0]
  have h := body_sound m ρ c
  unfold bodyPre bodyPost at h
  simp only [← stg_owns] at h
  exact h

end Cert.HalfReduce

end
-- ==== Proof.Launch.lean ====
/-
The launch: the ghost state minted and dealt, the debts turned into credit, and the run of the whole program.
-/
module

public import proofs.«01_k».proof.Proof.Body

@[expose] public section

noncomputable section

namespace Cert.HalfReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The fetches, the fetch of the half to keep, the sends, the receives. -/
abbrev Own : Type := Fin 4 ⊕ (Unit ⊕ (Fin 4 ⊕ Fin 4))
def osem : Own → SemLoc sig
  | .inl k => .dma (fetchS k)
  | .inr (.inl _) => .dma keepS
  | .inr (.inr (.inl k)) => .dma (sendS k)
  | .inr (.inr (.inr k)) => .dma (recvS k)
theorem ownSemFacts : Pipeline.OwnSemFacts cfg0.spec osem := by decide

omit [FloatOps F] in
theorem bigSep_unit (Φ : Unit → sProp 𝕄) : bigSep Finset.univ Φ = Φ () := by
  rw [show (Finset.univ : Finset Unit) = {()} from rfl, bigSep_singleton]
omit [FloatOps F] in
/-- A family over the cells: the barrier's, the sends', the receives'. -/
theorem bigSep_cells (Φ : Cell → sProp 𝕄) :
    bigSep Finset.univ Φ = iprop(Φ bar ∗ (bigSep Finset.univ fun k => Φ (out k)) ∗ bigSep Finset.univ fun k => Φ (inc k)) := by
  rw [BI.bigSep_univ_sum, BI.bigSep_univ_sum, bigSep_unit]
  rfl

theorem ownSems0_eq (c : Dev nD) : (Pipeline.ownSems0 (Ix := Unit) (Name := ℕ) (U := UU) (Lvl := ℕ) (Val := Elt F) (τ := τ) osem c : sProp 𝕄)
    = iprop((bigSep Finset.univ fun k => semVal ((c : Thread nD τ), SemLoc.dma (fetchS k)) 0) ∗ semVal ((c : Thread nD τ), SemLoc.dma keepS) 0
      ∗ (bigSep Finset.univ fun k => semVal (kcell c (out k)) 0) ∗ bigSep Finset.univ fun k => semVal (kcell c (inc k)) 0) := by
  unfold Pipeline.ownSems0
  rw [BI.bigSep_univ_sum, BI.bigSep_univ_sum, BI.bigSep_univ_sum, bigSep_unit]
  rfl
/-- The one semaphore not the kernel's own is the barrier. -/
theorem unscopedSems0_eq (c : Dev nD) : (unscopedSems0 c : sProp 𝕄) = semVal (kcell c bar) 0 := by
  unfold unscopedSems0; rw [bigSep_eq_bigSepL_of_eq [SemLoc.reg barS] (by decide) (by decide)]; rfl

/-- All of a device's semaphores: its cells' and its own transfers'. -/
theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun j : Cell => semVal (kcell c j) 0) ∗ locals (F := F) c) := by
  rw [ownSems0_eq, unscopedSems0_eq, bigSep_cells]
  unfold locals
  iintro ⟨⟨Hf, Hk, Ho, Hi⟩, Hb⟩
  isplitl [Ho Hi Hb]
  · isplitl [Hb]; · iexact Hb
    isplitl [Ho] <;> iassumption
  isplitl [Hf] <;> iassumption

/-! ## The launch element -/

theorem cell_injective : Function.Injective fun cj : Dev nD × Cell => (kcell cj.1 cj.2 : GSem nD τ sig) := fun a b h =>
  Prod.ext (kcell_inj.mp h).1 (kcell_inj.mp h).2
theorem tok_injective : Function.Injective fun cj : Dev nD × Cell => ((kcell cj.1 cj.2, 0, ()) : GSem nD τ sig × ℕ × Unit) := fun _ _ h =>
  cell_injective (congrArg Prod.fst h)
def cells : Finset (GSem nD τ sig) := Finset.univ.map ⟨_, cell_injective⟩
def toks : Finset (GSem nD τ sig × ℕ × Unit) := Finset.univ.map ⟨_, tok_injective⟩

def u₀ : UU := (initOf (Pipeline.cells cfgs cellOf_inj) (Pipeline.launchToks cfgs cellOf_inj), (initOf cells toks, 1))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch element deals a device, cell by cell. -/
def G (c : Dev nD) : sProp 𝕄 :=
  bigSep Finset.univ fun j : Cell => iprop(roundState ER (sched m) (kcell c j) 0 ∗ reached ER (kcell c j) 0 ∗ place c j ∗ right c j)

theorem fund_cells : BI.own (ER (initOf cells toks)) ⊢ (|==> bigSep Finset.univ (G m) : sProp 𝕄) := by
  iintro H
  imod (Rounds.fund ER (sched m) cells toks) $$ H with H
  imodintro
  unfold cells toks
  rw [bigSep_map, bigSep_map, bigSep_map, bigSep_map]
  iapply (Entails.of_eq (show _ = bigSep Finset.univ (G m) from by
    unfold G
    rw [← bigSep_univ_prod fun cj : Dev nD × Cell => iprop(roundState ER (sched m) (kcell cj.1 cj.2) 0 ∗ reached ER (kcell cj.1 cj.2) 0 ∗ place cj.1 cj.2 ∗ right cj.1 cj.2),
      bigSep_sep', bigSep_sep', bigSep_sep']))
  iexact H

/-- A device's cells are put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Cell => iprop(∃ κ : ℕ, cellInv ER (sched m) κ (kcell c j)))
          ∗ (bigSep Finset.univ fun j : Cell => reached ER (kcell c j) 0)
          ∗ (bigSep Finset.univ fun j : Cell => place c j) ∗ (bigSep Finset.univ fun j : Cell => right c j) ∗ locals c) := by
  have halloc : iprop((bigSep Finset.univ fun j : Cell => semVal (kcell c j) 0) ∗ bigSep Finset.univ fun j : Cell => roundState ER (sched m) (kcell c j) 0)
      ⊢ (|={Set.univ}=> bigSep Finset.univ fun j : Cell => iprop(∃ κ : ℕ, cellInv ER (sched m) κ (kcell c j)) : sProp 𝕄) := by
    rw [← bigSep_sep']
    exact (bigSep_mono fun j _ => (Rounds.body_intro ER (sched m) (kcell c j)).trans inv_alloc).trans (bigSep_fupd _ _)
  unfold G
  rw [bigSep_sep', bigSep_sep', bigSep_sep']
  iintro ⟨Hos, Hus, Hst, Hr, Hat, Ht⟩
  ihave Hv := (sems_split (F := F) c) $$ [Hos Hus]
  · isplitl [Hos] <;> iassumption
  icases Hv with ⟨Hv, Hl⟩
  imod (halloc) $$ [Hv Hst] with Hinv
  · isplitl [Hv] <;> iassumption
  imodintro
  isplitl [Hinv]; · iexact Hinv
  isplitl [Hr]; · iexact Hr
  isplitl [Hat]; · iexact Hat
  isplitl [Ht] <;> iassumption

/-- The rights dealt to the devices that pay: a send's to its own device, a barrier's and a receive's to the partner. -/
theorem rights_around : (bigSep Finset.univ fun c : Dev nD => bigSep Finset.univ fun j : Cell => (right c j : sProp 𝕄))
    = bigSep Finset.univ fun c : Dev nD => payToks c := by
  unfold payToks
  rw [bigSep_congr (s := Finset.univ) fun (c : Dev nD) _ => bigSep_cells fun j => (right c j : sProp 𝕄)]
  rw [bigSep_sep', bigSep_sep', bigSep_sep', bigSep_sep']
  rw [bigSep_univ_equiv swap fun c : Dev nD => (right c bar : sProp 𝕄),
    bigSep_univ_equiv swap fun c : Dev nD => bigSep Finset.univ fun k : Fin 4 => (right c (inc k) : sProp 𝕄)]
  rfl

/-- What everyone may use goes to each device beside its own. -/
theorem ghost_intro (K : Dev nD × Cell → ℕ) :
    iprop(records m K ∗ bigSep Finset.univ fun c : Dev nD => iprop(places (F := F) c ∗ payToks c ∗ locals c)) ⊢ bigSep Finset.univ (ghost m) := by
  refine (sep_mono_left (BI.bigSep_of_persistent (Finset.univ : Finset (Dev nD)) (records m K))).trans ?_
  rw [← bigSep_sep']
  exact bigSep_mono fun c _ => by
    show (iprop(records m K ∗ places c ∗ payToks c ∗ locals c) : sProp 𝕄) ⊢ ghost m c
    unfold ghost
    iintro H
    iexists K
    iexact H

theorem regroup :
    (bigSep Finset.univ fun c : Dev nD => iprop((bigSep Finset.univ fun j : Cell => iprop(∃ κ : ℕ, cellInv ER (sched m) κ (kcell c j)))
          ∗ (bigSep Finset.univ fun j : Cell => reached ER (kcell c j) 0)
          ∗ (bigSep Finset.univ fun j : Cell => place c j) ∗ (bigSep Finset.univ fun j : Cell => right c j) ∗ locals c) : sProp 𝕄)
      ⊢ bigSep Finset.univ (ghost m) := by
  rw [bigSep_sep', bigSep_sep', bigSep_sep', bigSep_sep', rights_around,
    ← bigSep_univ_prod fun cj : Dev nD × Cell => iprop(∃ κ : ℕ, cellInv ER (sched m) κ (kcell cj.1 cj.2)),
    ← bigSep_univ_prod fun cj : Dev nD × Cell => (reached ER (kcell cj.1 cj.2) 0 : sProp 𝕄),
    show (bigSep Finset.univ fun c : Dev nD => bigSep Finset.univ fun j : Cell => (place c j : sProp 𝕄)) = bigSep Finset.univ fun c => places c
      from bigSep_congr fun c _ => bigSep_cells fun j => (place c j : sProp 𝕄)]
  iintro ⟨HI, #HR, Hat, Ht, Hl⟩
  ihave HK := (BI.bigSep_exists_pi Finset.univ (fun (cj : Dev nD × Cell) (κ : ℕ) => (cellInv ER (sched m) κ (kcell cj.1 cj.2) : sProp 𝕄))) $$ HI
  icases HK with ⟨%K, #HI⟩
  iapply (ghost_intro m K)
  isplitr
  · unfold records; isplitl; · iexact HI
    iexact HR
  rw [bigSep_sep', bigSep_sep']
  isplitl [Hat]; · iexact Hat
  isplitl [Ht] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

/-- What device `d` owes a cell of device `c`: nothing unless they are partners. -/
theorem tallyAt_partner (d c : Dev nD) (j j' : Cell) (n : ℕ) :
    tallyAt (kcell (peer d) j') () n (kcell c j) () = if d = peer c then (if j = j' then n else 0) else 0 := by
  rw [tallyAt_apply]
  by_cases h : d = peer c
  · subst h
    rw [peer_peer, if_pos rfl]
    by_cases hj : j = j'
    · rw [hj, if_pos ⟨rfl, rfl⟩, if_pos rfl]
    · rw [if_neg fun e => hj (kcell_inj.mp e.1).2, if_neg hj]
  · rw [if_neg h, if_neg fun e => h (by rw [(kcell_inj.mp e.1).1, peer_peer])]

/-- What a cell of a device is owed in all. -/
def due : Cell → ℕ
  | .inl _ => 1
  | .inr (.inl _) => 0
  | .inr (.inr _) => N

theorem owed_cell (d c : Dev nD) (j : Cell) : O₀ d (kcell c j) () = if d = peer c then due j else 0 := by
  have e : O₀ d (kcell c j) () = 0 + tallyAt (kcell (peer d) (inc 3)) () N (kcell c j) () + tallyAt (kcell (peer d) (inc 2)) () N (kcell c j) ()
      + tallyAt (kcell (peer d) (inc 1)) () N (kcell c j) () + tallyAt (kcell (peer d) (inc 0)) () N (kcell c j) ()
      + tallyAt (kcell (peer d) bar) () 1 (kcell c j) () := rfl
  rw [e, tallyAt_partner, tallyAt_partner, tallyAt_partner, tallyAt_partner, tallyAt_partner]
  by_cases h : d = peer c
  · simp only [if_pos h]
    rcases j with _ | k | k
    · rfl
    · rfl
    · show _ = N
      generalize N = n
      revert k
      simp only [Sum.inr.injEq, reduceCtorEq, if_false]
      intro k
      fin_cases k <;> simp
  · simp only [if_neg h]

theorem launch_cell (c : Dev nD) (j : Cell) :
    tallyOn (kcell c j) (launchCredit (Pipeline.owing O₀) 0 (kcell c j)) = (tallyAt (kcell c j) () (due j) : CellTallies nD τ sig Unit) := by
  unfold tallyAt; refine congrArg _ (Finsupp.ext fun u => ?_); cases u
  rw [Pipeline.launchCredit_owing, Finsupp.single_eq_same, Finset.sum_congr rfl fun d _ => owed_cell d c j,
    Finset.sum_ite_eq' Finset.univ (peer c) fun _ => due j, if_pos (Finset.mem_univ _)]

theorem creds (c : Dev nD) : (Pipeline.launchCred O₀ c : sProp 𝕄)
    ⊢ iprop(cred (tallyAt (kcell c bar) () 1) ∗ bigSep Finset.univ fun k => cred (tallyAt (kcell c (inc k)) () N)) := by
  have h : (Pipeline.launchCred O₀ c : sProp 𝕄) ⊢ bigSep Finset.univ fun j : Cell => cred (tallyAt (kcell c j) () (due j)) := by
    unfold Pipeline.launchCred
    have e : (bigSep Finset.univ fun j : Cell => (cred (tallyAt (kcell c j) () (due j)) : sProp 𝕄))
        = bigSep (Finset.univ.map ⟨csem, csem_injective⟩) fun sm : SemLoc sig =>
            cred (tallyOn ((c : Thread nD τ), sm) (launchCredit (Pipeline.owing O₀) 0 ((c : Thread nD τ), sm))) := by
      rw [bigSep_map]
      exact bigSep_congr fun j _ => congrArg cred (launch_cell c j).symm
    rw [e]
    exact bigSep_subset (Finset.subset_univ _)
  refine h.trans ?_
  rw [bigSep_cells]
  exact sep_mono_right sep_elim_right

/-! ## The side conditions -/

theorem share_eq (c : Dev nD) (w : Fin cfg0.W) : (dats m ρ 0 c).share w = fullShare := by unfold Dat.share; split <;> rfl

/-- The staging buffer's semaphore is below everything owed. -/
theorem waits (c : Dev nD) : (levAts L lv : sProp 𝕄) ⊢ Pipeline.cellsWaits cfgs (dats m ρ) () 0 c :=
  Pipeline.cellsWaits_intro cfgs (dats m ρ) () 0 c fun w s t => by
    have hlow : lv ((c : Thread nD τ), .dma ((cfg0.win w).sem s)) () = 0 := by
      unfold lv
      rw [show cellAt (.dma ((cfg0.win w).sem s)) = none by revert w s; decide]
    rcases t with ⟨_ | _, ht⟩
    · exact mayWait_launch c _ (by rw [hlow]; decide)
    · exact mayWait_done c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start arg
  isplitl
  · isplitl [HG]; · iexact HG
    isplitl [Hc]; · iexact Hc
    isplitl [Hx] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ buf
  iintro ⟨Hs, -, Hr⟩
  isplitl [Hs] <;> iassumption

/-- What is read of the final state: the barrier at zero, the argument as it was. -/
def done (c : Dev nD) : sProp 𝕄 := iprop(arg m c fullShare ∗ unscopedSems0 c)

theorem leave (c : Dev nD) :
    (dats m ρ 0 c).Φ (Fin.last cfg0.N) ⊢ iprop(done m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ done locals buf
  rw [unscopedSems0_eq]
  iintro ⟨Hx, ⟨Hf, Hg, Hs, Hr⟩, ⟨Hvf, Hvk⟩, Hvb, Hvo, Hvi⟩
  isplitl [Hx Hvb]
  · isplitl [Hx] <;> iassumption
  isplitl [Hvf Hvk Hvo Hvi]
  · isplitl [Hvf]; · iexact Hvf
    isplitl [Hvk]; · iexact Hvk
    isplitl [Hvo] <;> iassumption
  isplitl [Hf]; · iexists _; iexact Hf
  isplitl [Hg]; · iexists _; iexact Hg
  isplitl [Hs]; · iexists _; iexact Hs
  iexists _; iexact Hr

/-- What a device's part of the final state is. -/
def Settled (c : Dev nD) (s : MemSt nD τ sig (Elt F)) : Prop :=
  s.mem ((c : Thread nD τ).loc main_arg0) = m ((c : Thread nD τ).loc main_arg0)
    ∧ ∀ sm : SemLoc sig, sm.isScoped .tc = false → s.sem ((c : Thread nD τ), sm) = 0

theorem done_read (c : Dev nD) (s' : Phys nD τ sig (Elt F)) :
    iprop(done m c ∗ emp ∗ SI s') ⊢ |={Set.univ}=> iprop(⌜Settled m c s'.mem⌝ ∗ SI s' : sProp 𝕄) := by
  unfold done arg
  iintro ⟨⟨Hx, Hu⟩, -, HSI⟩
  ihave %hx := (SI_pointsTo_agree (st := s')) $$ [HSI Hx]
  · isplitl [HSI] <;> iassumption
  ihave %hu := (tcUnscoped_read c s') $$ [Hu HSI]
  · isplitl [Hu] <;> iassumption
  imodintro
  isplitr
  · ipureintro; exact ⟨funext fun i => hx i (Finset.mem_univ i), hu⟩
  iexact HSI

/-! ## The run -/

/-- The result array of a device after the run. -/
def final (c : Dev nD) : Buf (Elt F) ((c : Thread nD τ).loc main_v1) := (dats m ρ 0 c).arrAt 0 cfg0.N

set_option maxRecDepth 8000 in
/-- From any memory with zero counters every weakly fair execution of @main ends, each device's result array at the
    computed contents, its argument unchanged, every semaphore counter at zero. -/
theorem run_main : θ_run defs (onTc (τ := τ) (main (F := F))) (s₀ m ρ) fun r =>
    (∀ c : Dev nD, r.2.mem ((c : Thread nD τ).loc main_v1) = final m ρ c
      ∧ r.2.mem ((c : Thread nD τ).loc main_arg0) = m ((c : Thread nD τ).loc main_arg0)) ∧ r.2.sem = fun _ => 0 :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_split _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := enter m ρ) (hout := leave m ρ)
    (QY := Settled m) (hY := done_read m)
    (hQ := fun _ h hs => ⟨fun c => ⟨(h c).1 0, (h c).2.2.1⟩, sem_eq_zero hs fun c => (h c).2.2.2⟩)

end Cert.HalfReduce

end
-- ==== Proof.Value.lean ====
/-
The value of the run: a device's result array is the sum of its half and its partner's, and over the real numbers
that is the device's block of the reference's sum.
-/
module

public import proofs.«01_k».proof.Proof.Launch
public import proofs.«01_k».proof.Proof.Gen.ReferenceIdeal.Run
public import Idealize.ShloMosaic.Lib.Layout
public import Idealize.ShloMosaic.Lib.Pipeline.ValueKit
public import Idealize.ShloMosaic.Lib.Pointwise
public import Idealize.ShloMosaic.PureOps.Ideal

@[expose] public section

noncomputable section

namespace Cert.HalfReduce

open Cert.KernelIdeal Cert.KernelIdeal.Gen
open Idealize.ShloMosaic Idealize.ShloMosaic.TcCoe
open Idealize.SL Idealize.SL.Sem

/-! ## The result array -/

section
variable {F : FTy → Type} [FloatOps F]
variable (m : (ℓ : Loc nD τ sig) → Buf (Elt F) ℓ) (ρ : Dev nD → PrngReg)

/-- The one window is the whole result, written back once: the array ends holding what the body left. -/
theorem final_eq (c : Dev nD) : final m ρ c = result m c :=
  (dats m ρ 0 c).arrAt_eq_of_after_last 0 t0_0 (by decide +kernel) _ fun _ => rfl
end

/-! ## The sum over the real numbers -/

/-- The argument of the reference; -/
abbrev Whole := FVec Ideal Cert.ReferenceIdeal.S2x256x512 .f32
/-- its result: the sum of the argument's two planes. -/
def total (X : Whole) : FVec Ideal Cert.ReferenceIdeal.S256x512 .bf16 :=
  truncf (F := Ideal) .bf16 (Host.reduceAdd (F := Ideal) X (constant Cert.ReferenceIdeal.S_ .f32 0x00000000#32)
    Cert.ReferenceIdeal.Facts₀.reducesTo_S2x256x512_S256x512_d0 Cert.ReferenceIdeal.Facts₀.h_S_) Cert.ReferenceIdeal.Facts₀.bitsLt_bf16_f32

/-- Entry `j` of plane `k`. -/
def inPlane (k : Fin 2) (j : Cert.ReferenceIdeal.S256x512.Idx) : Cert.ReferenceIdeal.S2x256x512.Idx :=
  ix3 k (⟨(j 0).val, (j 0).isLt⟩ : Fin 256) (⟨(j 1).val, (j 1).isLt⟩ : Fin 512)

theorem total_apply (X : Whole) (j : Cert.ReferenceIdeal.S256x512.Idx) : total X j = X (inPlane 0 j) + X (inPlane 1 j) := by
  have h : total X j = Ideal.ofBits .f32 0x00000000#32 + ∑ k : Fin 2, X (inPlane k j) :=
    Ideal.hostReduceAdd_r3_a0 Cert.ReferenceIdeal.Facts₀.reducesTo_S2x256x512_S256x512_d0 X (Ideal.ofBits .f32 0x00000000#32) j
  rw [h, Ideal.ofBits_zero_f32, Fin.sum_univ_two]
  exact zero_add _

/-- The two summands, in the order of the device that keeps the first. -/
theorem both (c : Dev nD) (f : Fin 2 → EReal) : f (mine c) + f (theirs c) = f 0 + f 1 := by
  unfold mine theirs
  split
  · rfl
  · exact add_comm _ _

/-! ## The layout -/

/-- The block of the argument a device holds, as the claim names it; -/
abbrev argAt (c : Dev nD) := Layout.meshBlock [2, 4, 4] ![[0], [], []] c (by decide)
/-- the block of the result. -/
abbrev resAt (c : Dev nD) := Layout.meshBlock [2, 4, 4] ![[], [0]] c (by decide)

/-- A device's argument is the plane its coordinate `x` names; -/
theorem argAt_val (c : Dev nD) (a : Fin 3) : (argAt c a).val = (![(mine c).val, 0, 0] : Fin 3 → ℕ) a := by revert c a; decide
/-- its result is the half of the columns it keeps. -/
theorem resAt_val (c : Dev nD) (a : Fin 2) : (resAt c a).val = (![0, (mine c).val] : Fin 2 → ℕ) a := by revert c a; decide

theorem argTiles : Layout.TilesN ⟨3, ![1, 256, 512]⟩ ⟨3, ![2, 256, 512]⟩
    (fun b : Fin 3 => Layout.cutSize [2, 4, 4] ((![[0], [], []] : Fin 3 → List ℕ) b)) := by decide
theorem resTiles : Layout.TilesN ⟨2, ![256, 256]⟩ ⟨2, ![256, 512]⟩
    (fun b : Fin 2 => Layout.cutSize [2, 4, 4] ((![[], [0]] : Fin 2 → List ℕ) b)) := by decide

/-- Entry `i` of the half device `c` keeps, in the argument of a device `d` and in `c`'s result, is the same entry of
    the plane `d` holds. -/
theorem entry_eq (c d : Dev nD) (i : S256x256.Idx) :
    argTiles.idx (argAt d) (halfIdx (mine c) i) = inPlane (mine d) (resTiles.idx (resAt c) i) := by
  funext a
  apply Fin.ext
  rw [Layout.TilesN.idx_val]
  match a with
  | ⟨0, _⟩ =>
    refine (congrArg (fun n => n * 1 + 0) (argAt_val d 0)).trans ?_
    exact Nat.mul_one _
  | ⟨1, _⟩ =>
    refine (congrArg (fun n => n * 256 + (i 0).val) (argAt_val d 1)).trans (Eq.symm ?_)
    exact congrArg (fun n => n * 256 + (i 0).val) (resAt_val c 0)
  | ⟨2, _⟩ =>
    refine (congrArg (fun n => n * 512 + (256 * (mine c).val + (i 1).val)) (argAt_val d 2)).trans (Eq.symm ?_)
    refine (congrArg (fun n => n * 256 + (i 1).val) (resAt_val c 1)).trans ?_
    show (mine c).val * 256 + (i 1).val = 0 * 512 + (256 * (mine c).val + (i 1).val)
    rw [Nat.zero_mul, Nat.zero_add, Nat.mul_comm]

/-- If each device holds its part of `X`, each computes its part of `X`'s sum. -/
theorem result_eq (m : (ℓ : Loc nD τ sig) → Buf (Elt Ideal) ℓ) (X : Whole)
    (hX : ∀ c : Dev nD, m ((c : Thread nD τ).loc main_arg0) = Layout.blockN ⟨3, ![1, 256, 512]⟩ ⟨3, ![2, 256, 512]⟩ (argAt c) X argTiles)
    (c : Dev nD) :
    result m c = Layout.blockN ⟨2, ![256, 256]⟩ ⟨2, ![256, 512]⟩ (resAt c) (total X) resTiles := by
  have hh : ∀ (d : Dev nD) (i : S256x256.Idx), half m (mine c) d i = X (inPlane (mine d) (resTiles.idx (resAt c) i)) := fun d i =>
    (congrFun (hX d) (halfIdx (mine c) i)).trans (congrArg X (entry_eq c d i))
  funext i
  have e : result m c i = (half m (mine c) c i : EReal) + half m (theirs (peer c)) (peer c) i := rfl
  rw [e, theirs_peer, hh, hh, mine_peer]
  exact (both c fun k => X (inPlane k (resTiles.idx (resAt c) i))).trans (total_apply X _).symm

end Cert.HalfReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, its argument unchanged and its counters at zero, whatever the float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (Cert.HalfReduce.run_main m ρ)

theorem frame_ideal : Cert.quiescent_KernelIdeal := fun m ρ _ => frame_any m ρ

/-- The kernel's bodies are the idealized kernel's, their texts being the same. -/
theorem bodies_eq {F : FTy → Type} [FloatOps F] : Cert.Kernel.defs (F := F) = Cert.KernelIdeal.defs (F := F) :=
  congrArg (Pipeline.defs _) (congrArg Defs.onTc (funext fun ℓ => match ℓ with | 0 => rfl))

/-- So that run, at the bits, is the kernel's own. -/
theorem frame_kernel : Cert.quiescent_Kernel := fun m ρ _ => by
  rw [bodies_eq]
  exact frame_any (F := Bits) m ρ

/-- The reference runs, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the real numbers each device ends with its block of the reference's sum. -/
theorem algebraic : Cert.algebraic_KernelIdeal_ReferenceIdeal := fun m ρ m' ρ' _ hX =>
  ⟨Cert.HalfReduce.total (m' (((0 : Dev Cert.ReferenceIdeal.nD).tc : Thread _ Cert.ReferenceIdeal.τ).loc Cert.ReferenceIdeal.main_arg0)),
    (θ_run Cert.KernelIdeal.defs _ _).mono
      (fun _ h c => ⟨((h.1 c).1.trans (Cert.HalfReduce.final_eq m ρ c)).trans (Cert.HalfReduce.result_eq m _ hX c), (h.1 c).2⟩)
      (Cert.HalfReduce.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
